-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S1024x1024 : Shape := ⟨2, ![1024, 1024]⟩
abbrev S256x1024 : Shape := ⟨2, ![256, 1024]⟩
abbrev S4x256x256 : Shape := ⟨3, ![4, 256, 256]⟩
abbrev S3 : Shape := ⟨1, ![3]⟩
abbrev S4 : Shape := ⟨1, ![4]⟩
abbrev S_ : Shape := ⟨0, ![]⟩
abbrev S1 : Shape := ⟨1, ![1]⟩
abbrev S1x256x256 : Shape := ⟨3, ![1, 256, 256]⟩
abbrev S256x256 : Shape := ⟨2, ![256, 256]⟩

abbrev nBuf : Space → Nat
  | .hbm => 3
  | .vmem => 4
  | .smem => 0
  | _ => 0

abbrev bufTy : (tb : Table) → Fin (tcTables nBuf tb) → BufTy
  | .hbm, ⟨0, _⟩ => ⟨S1024x256, .bf16⟩
  | .hbm, ⟨1, _⟩ => ⟨S1024x1024, .bf16⟩
  | .hbm, ⟨2, _⟩ => ⟨S256x1024, .f32⟩
  | .local _ .vmem, ⟨0, _⟩ => ⟨S1024x256, .bf16⟩
  | .local _ .vmem, ⟨1, _⟩ => ⟨S1024x1024, .bf16⟩
  | .local _ .vmem, ⟨2, _⟩ => ⟨S256x1024, .f32⟩
  | .local _ .vmem, ⟨3, _⟩ => ⟨S4x256x256, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_38 : BitVec 32 := 0#32
  let c0_i32_39 : BitVec 32 := 0#32
  ![v2.toNat, 0, 0]
def k0_off3 (d0 : Dev nD) (c1_i32_28 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c256_i32 : BitVec 32 := 256#32
  let v54 : BitVec 32 := Scalar.muli v53 c256_i32
  let c0_i32_40 : BitVec 32 := 0#32
  ![v54.toNat, 0]
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_36 : BitVec 32 := 1#32
  let v55 : BitVec 32 := Scalar.muli v53 c1_i32_36
  let v56 : BitVec 32 := Scalar.addi c0_i32_37 v55
  v56.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_41 : BitVec 32 := 3#32
  let v64 : BitVec 32 := Scalar.addi v2 c3_i32_41
  let c4_i32_42 : BitVec 32 := 4#32
  let c0_i32_43 : BitVec 32 := 0#32
  let v65 : BitVec 1 := Scalar.cmpi .eq c4_i32_42 c0_i32_43
  let c1_i32_44 : BitVec 32 := 1#32
  let v66 : BitVec 32 := Scalar.select v65 c1_i32_44 c4_i32_42
  let v67 : BitVec 32 := Scalar.remsi v64 v66
  let c0_i32_46 : BitVec 32 := 0#32
  let v69 : BitVec 1 := Scalar.cmpi .slt v67 c0_i32_46
  let c0_i32_47 : BitVec 32 := 0#32
  let v70 : BitVec 1 := Scalar.cmpi .slt v66 c0_i32_47
  let v71 : BitVec 1 := Scalar.xori v69 v70
  let c0_i32_45 : BitVec 32 := 0#32
  let v68 : BitVec 1 := Scalar.cmpi .ne v67 c0_i32_45
  let v72 : BitVec 1 := Scalar.andi v71 v68
  let v73 : BitVec 32 := Scalar.addi v67 v66
  let v74 : BitVec 32 := Scalar.select v72 v73 v67
  let c1_i32_50 : BitVec 32 := 1#32
  let v76 : BitVec 32 := Scalar.muli v74 c1_i32_50
  let v77 : BitVec 32 := Scalar.addi c0_i32_51 v76
  v77.toNat
def k0_dev6 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_55 : BitVec 32 := 2#32
  let v85 : BitVec 32 := Scalar.addi v2 c2_i32_55
  let c4_i32_56 : BitVec 32 := 4#32
  let c0_i32_57 : BitVec 32 := 0#32
  let v86 : BitVec 1 := Scalar.cmpi .eq c4_i32_56 c0_i32_57
  let c1_i32_58 : BitVec 32 := 1#32
  let v87 : BitVec 32 := Scalar.select v86 c1_i32_58 c4_i32_56
  let v88 : BitVec 32 := Scalar.remsi v85 v87
  let c0_i32_60 : BitVec 32 := 0#32
  let v90 : BitVec 1 := Scalar.cmpi .slt v88 c0_i32_60
  let c0_i32_61 : BitVec 32 := 0#32
  let v91 : BitVec 1 := Scalar.cmpi .slt v87 c0_i32_61
  let v92 : BitVec 1 := Scalar.xori v90 v91
  let c0_i32_59 : BitVec 32 := 0#32
  let v89 : BitVec 1 := Scalar.cmpi .ne v88 c0_i32_59
  let v93 : BitVec 1 := Scalar.andi v92 v89
  let v94 : BitVec 32 := Scalar.addi v88 v87
  let v95 : BitVec 32 := Scalar.select v93 v94 v88
  let c1_i32_64 : BitVec 32 := 1#32
  let v97 : BitVec 32 := Scalar.muli v95 c1_i32_64
  let v98 : BitVec 32 := Scalar.addi c0_i32_65 v97
  v98.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_69 : BitVec 32 := 256#32
  let v106 : BitVec 32 := Scalar.muli v2 c256_i32_69
  let v107 : Index := Scalar.indexCast v106
  let c0 : Index := 0#32
  ![v107.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_69 : BitVec 32 := 256#32
  let v106 : BitVec 32 := Scalar.muli v2 c256_i32_69
  let v110 : Index := Scalar.indexCast v106
  let c0_70 : Index := 0#32
  ![v110.toNat, 0]
def k0_off6 (d0 : Dev nD) (c1_i32_71 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v114 : BitVec 32 := Scalar.addi v2 c1_i32_71
  let c4_i32_72 : BitVec 32 := 4#32
  let c0_i32_73 : BitVec 32 := 0#32
  let v115 : BitVec 1 := Scalar.cmpi .eq c4_i32_72 c0_i32_73
  let c1_i32_74 : BitVec 32 := 1#32
  let v116 : BitVec 32 := Scalar.select v115 c1_i32_74 c4_i32_72
  let v117 : BitVec 32 := Scalar.remsi v114 v116
  let c0_i32_76 : BitVec 32 := 0#32
  let v119 : BitVec 1 := Scalar.cmpi .slt v117 c0_i32_76
  let c0_i32_77 : BitVec 32 := 0#32
  let v120 : BitVec 1 := Scalar.cmpi .slt v116 c0_i32_77
  let v121 : BitVec 1 := Scalar.xori v119 v120
  let c0_i32_75 : BitVec 32 := 0#32
  let v118 : BitVec 1 := Scalar.cmpi .ne v117 c0_i32_75
  let v122 : BitVec 1 := Scalar.andi v121 v118
  let v123 : BitVec 32 := Scalar.addi v117 v116
  let v124 : BitVec 32 := Scalar.select v122 v123 v117
  ![v124.toNat]
def k0_off7 (d0 : Dev nD) (c1_i32_71 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v114 : BitVec 32 := Scalar.addi v2 c1_i32_71
  let c4_i32_72 : BitVec 32 := 4#32
  let c0_i32_73 : BitVec 32 := 0#32
  let v115 : BitVec 1 := Scalar.cmpi .eq c4_i32_72 c0_i32_73
  let c1_i32_74 : BitVec 32 := 1#32
  let v116 : BitVec 32 := Scalar.select v115 c1_i32_74 c4_i32_72
  let v117 : BitVec 32 := Scalar.remsi v114 v116
  let c0_i32_76 : BitVec 32 := 0#32
  let v119 : BitVec 1 := Scalar.cmpi .slt v117 c0_i32_76
  let c0_i32_77 : BitVec 32 := 0#32
  let v120 : BitVec 1 := Scalar.cmpi .slt v116 c0_i32_77
  let v121 : BitVec 1 := Scalar.xori v119 v120
  let c0_i32_75 : BitVec 32 := 0#32
  let v118 : BitVec 1 := Scalar.cmpi .ne v117 c0_i32_75
  let v122 : BitVec 1 := Scalar.andi v121 v118
  let v123 : BitVec 32 := Scalar.addi v117 v116
  let v124 : BitVec 32 := Scalar.select v122 v123 v117
  let c0_i32_81 : BitVec 32 := 0#32
  let c0_i32_82 : BitVec 32 := 0#32
  ![v124.toNat, 0, 0]
def k0_off8 (d0 : Dev nD) (c1_i32_71 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v114 : BitVec 32 := Scalar.addi v2 c1_i32_71
  let c4_i32_72 : BitVec 32 := 4#32
  let c0_i32_73 : BitVec 32 := 0#32
  let v115 : BitVec 1 := Scalar.cmpi .eq c4_i32_72 c0_i32_73
  let c1_i32_74 : BitVec 32 := 1#32
  let v116 : BitVec 32 := Scalar.select v115 c1_i32_74 c4_i32_72
  let v117 : BitVec 32 := Scalar.remsi v114 v116
  let c0_i32_76 : BitVec 32 := 0#32
  let v119 : BitVec 1 := Scalar.cmpi .slt v117 c0_i32_76
  let c0_i32_77 : BitVec 32 := 0#32
  let v120 : BitVec 1 := Scalar.cmpi .slt v116 c0_i32_77
  let v121 : BitVec 1 := Scalar.xori v119 v120
  let c0_i32_75 : BitVec 32 := 0#32
  let v118 : BitVec 1 := Scalar.cmpi .ne v117 c0_i32_75
  let v122 : BitVec 1 := Scalar.andi v121 v118
  let v123 : BitVec 32 := Scalar.addi v117 v116
  let v124 : BitVec 32 := Scalar.select v122 v123 v117
  let v132 : Index := Scalar.indexCast v124
  let c0_85 : Index := 0#32
  let c0_86 : Index := 0#32
  ![v132.toNat, 0, 0]
def k0_off9 (d0 : Dev nD) (c1_i32_71 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v114 : BitVec 32 := Scalar.addi v2 c1_i32_71
  let c4_i32_72 : BitVec 32 := 4#32
  let c0_i32_73 : BitVec 32 := 0#32
  let v115 : BitVec 1 := Scalar.cmpi .eq c4_i32_72 c0_i32_73
  let c1_i32_74 : BitVec 32 := 1#32
  let v116 : BitVec 32 := Scalar.select v115 c1_i32_74 c4_i32_72
  let v117 : BitVec 32 := Scalar.remsi v114 v116
  let c0_i32_76 : BitVec 32 := 0#32
  let v119 : BitVec 1 := Scalar.cmpi .slt v117 c0_i32_76
  let c0_i32_77 : BitVec 32 := 0#32
  let v120 : BitVec 1 := Scalar.cmpi .slt v116 c0_i32_77
  let v121 : BitVec 1 := Scalar.xori v119 v120
  let c0_i32_75 : BitVec 32 := 0#32
  let v118 : BitVec 1 := Scalar.cmpi .ne v117 c0_i32_75
  let v122 : BitVec 1 := Scalar.andi v121 v118
  let v123 : BitVec 32 := Scalar.addi v117 v116
  let v124 : BitVec 32 := Scalar.select v122 v123 v117
  let c256_i32_87 : BitVec 32 := 256#32
  let v135 : BitVec 32 := Scalar.muli v124 c256_i32_87
  let v136 : Index := Scalar.indexCast v135
  let c0_88 : Index := 0#32
  ![v136.toNat, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Mesh.lean ====
/-
# The mesh, the views and the semaphores

Four devices. Each holds a column slab of `x` (1024 rows, 256 columns), staged in VMEM and read as four blocks of
256 rows, and a scratch of four slots of 256 × 256. Block `p` of device `c`'s slab goes to slot `c` of device `p`.

This module names those blocks, slots and semaphores by the device they belong to, and shows that the offsets and
device numbers the kernel computes are those names: every one of them is "my own number plus `k`, modulo four".
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Around the mesh -/

/-- The device `k` places after `c`. -/
def sh (k : ℕ) (c : Dev nD) : Dev nD := ⟨(c.val + k) % 4, Nat.mod_lt _ (by decide)⟩

/-- How many places after itself a device's `j`-th transfer goes: 1, then 3, then 2. -/
def dist (j : Fin 3) : ℕ := ![1, 3, 2] j

/-- The device the `j`-th transfer of device `c` goes to; also the device the `j`-th block `c` waits for comes from. -/
def tgt (j : Fin 3) (c : Dev nD) : Dev nD := sh (dist j) c

theorem tgt_ne (j : Fin 3) (c : Dev nD) : tgt j c ≠ c := by revert j c; decide
theorem tgt_inj (c : Dev nD) : Function.Injective fun j => tgt j c := by revert c; decide
theorem exists_tgt (c p : Dev nD) (h : p ≠ c) : ∃ j, tgt j c = p := by revert c p; decide

/-- The transfer of the other end: if `p` is what `c` sends to `j`-th, then `c` is what `p` sends to `opp j`-th. -/
def opp (j : Fin 3) : Fin 3 := ![1, 0, 2] j
theorem tgt_opp (j : Fin 3) (c : Dev nD) : tgt (opp j) (tgt j c) = c := by revert j c; decide
theorem opp_opp (j : Fin 3) : opp (opp j) = j := by revert j; decide
theorem opp_tgt (j : Fin 3) (c : Dev nD) : tgt j (tgt (opp j) c) = c := by revert j c; decide

/-- Going `j` places around is a permutation of the devices. -/
def around (j : Fin 3) : Dev nD ≃ Dev nD := ⟨tgt j, tgt (opp j), tgt_opp j, opp_tgt j⟩

/-! ## The devices the kernel's words name -/

theorem dev1_eq (c : Dev nD) : (⟨k0_dev1 c, k0_dev1_lt c⟩ : Dev nD) = tgt 0 c := by revert c; decide +kernel
theorem dev2_eq (c : Dev nD) : (⟨k0_dev2 c, k0_dev2_lt c⟩ : Dev nD) = tgt 2 c := by revert c; decide +kernel
theorem dev3_eq (c : Dev nD) : (⟨k0_dev3 c, k0_dev3_lt c⟩ : Dev nD) = tgt 1 c := by revert c; decide +kernel
theorem dev4_eq (c : Dev nD) : (⟨k0_dev4 c, k0_dev4_lt c⟩ : Dev nD) = tgt 0 c := by revert c; decide +kernel
theorem dev5_eq (c : Dev nD) : (⟨k0_dev5 c, k0_dev5_lt c⟩ : Dev nD) = tgt 1 c := by revert c; decide +kernel
theorem dev6_eq (c : Dev nD) : (⟨k0_dev6 c, k0_dev6_lt c⟩ : Dev nD) = tgt 2 c := by revert c; decide +kernel

/-! ## Buffers -/

/-- A device's slab of `x` in VMEM, the whole of `w`, the result block, and the four slots. -/
abbrev xM : Memref sig .tc .vmem S1024x256 .bf16 := Memref.whole cc0_stg0_0
abbrev wM : Memref sig .tc .vmem S1024x1024 .bf16 := Memref.whole cc0_stg1_0
abbrev oM : Memref sig .tc .vmem S256x1024 .f32 := Memref.whole cc0_stg2_0
abbrev sM : Memref sig .tc .vmem S4x256x256 .bf16 := Memref.whole cc0_scratch0

theorem xRow_inb (p : Dev nD) : ∀ a, (![256 * p.val, 0] : Fin 2 → ℕ) a + S256x256.size a ≤ S1024x256.size a := by
  revert p; decide
theorem wRow_inb (p : Dev nD) : ∀ a, (![256 * p.val, 0] : Fin 2 → ℕ) a + S256x1024.size a ≤ S1024x1024.size a := by
  revert p; decide
theorem slot_inb (p : Dev nD) : ∀ a, (![p.val, 0, 0] : Fin 3 → ℕ) a + S1x256x256.size a ≤ S4x256x256.size a := by
  revert p; decide

/-- Rows `256 p … 256 p + 255` of a slab of `x`, of `w`, and slot `p` of the scratch. -/
abbrev xRect (p : Dev nD) : Rect S1024x256 := Rect.unit (s := S1024x256) ![256 * p.val, 0] S256x256.size (xRow_inb p)
abbrev wRect (p : Dev nD) : Rect S1024x1024 := Rect.unit (s := S1024x1024) ![256 * p.val, 0] S256x1024.size (wRow_inb p)
abbrev sRect (p : Dev nD) : Rect S4x256x256 := Rect.unit (s := S4x256x256) ![p.val, 0, 0] S1x256x256.size (slot_inb p)

/-- Block `p` of a slab, as a transfer's source. -/
abbrev xBlk (p : Dev nD) : Memref sig .tc .vmem S256x256 .bf16 := xM.slice (xRect p) (fun _ => rfl)
/-- Slot `p`, as a transfer's destination. -/
abbrev slot (p : Dev nD) : Memref sig .tc .vmem S256x256 .bf16 :=
  (sM.slice (sRect p) (fun _ => rfl)).squeeze S256x256 squeezes_S1x256x256_S256x256

/-- A slice of the slab at an offset that is block `p`'s is block `p`; likewise a slot. -/
theorem xBlk_of {off : Fin 2 → ℕ} {p : Dev nD} (h : off = ![256 * p.val, 0])
    (hb : ∀ a, off a + S256x256.size a ≤ S1024x256.size a) :
    (xM.slice (Rect.unit (s := S1024x256) off S256x256.size hb) (fun _ => rfl) : Memref sig .tc .vmem S256x256 .bf16) = xBlk p := by
  subst h; rfl
theorem slot_of {off : Fin 3 → ℕ} {p : Dev nD} (h : off = ![p.val, 0, 0])
    (hb : ∀ a, off a + S1x256x256.size a ≤ S4x256x256.size a) :
    ((sM.slice (Rect.unit (s := S4x256x256) off S1x256x256.size hb) (fun _ => rfl)).squeeze S256x256 squeezes_S1x256x256_S256x256
      : Memref sig .tc .vmem S256x256 .bf16) = slot p := by
  subst h; rfl

/-! ## The offsets the kernel computes -/

/-- The word the kernel adds to its device number for the `j`-th transfer. -/
def word (j : Fin 3) : BitVec 32 := ![1#32, 3#32, 2#32] j

theorem off3_eq (j : Fin 3) (c : Dev nD) : k0_off3 c (word j) = ![256 * (tgt j c).val, 0] := by
  revert j c; decide +kernel
theorem off6_eq (j : Fin 3) (c : Dev nD) : k0_off6 c (word j) = ![(tgt j c).val] := by
  revert j c; decide +kernel
theorem off7_eq (j : Fin 3) (c : Dev nD) : k0_off7 c (word j) = ![(tgt j c).val, 0, 0] := by
  revert j c; decide +kernel
theorem off8_eq (j : Fin 3) (c : Dev nD) : k0_off8 c (word j) = ![(tgt j c).val, 0, 0] := by
  revert j c; decide +kernel
theorem off9_eq (j : Fin 3) (c : Dev nD) : k0_off9 c (word j) = ![256 * (tgt j c).val, 0] := by
  revert j c; decide +kernel

/-! ## Semaphores -/

/-- The runtime's barrier semaphore; the semaphore of the `j`-th send; the semaphore of what arrives in slot `p`. -/
abbrev barS : Sem sig := (SemArray.scalar (sig.barrier 0 rfl) : Sems sig S_).sem
def sendS (j : Fin 3) : DmaSem sig := ⟨3 + j.val, by have := j.isLt; show 3 + j.val < 10; omega⟩
def recvS (p : Dev nD) : DmaSem sig := ⟨6 + p.val, by have : p.val < 4 := p.isLt; show 6 + p.val < 10; omega⟩

theorem send0_eq : ((cc0_scratch1.slice (Rect.unit (s := S3) ![0] S1.size inb_S3_S1_0)).squeeze S_ squeezes_S1_S_).sem = sendS 0 := by decide
theorem send1_eq : ((cc0_scratch1.slice (Rect.unit (s := S3) ![1] S1.size inb_S3_S1_1)).squeeze S_ squeezes_S1_S_).sem = sendS 1 := by decide
theorem send2_eq : ((cc0_scratch1.slice (Rect.unit (s := S3) ![2] S1.size inb_S3_S1_2)).squeeze S_ squeezes_S1_S_).sem = sendS 2 := by decide

/-- The arrival semaphore at an offset that is device `p`'s number. -/
theorem recv_of {off : Fin 1 → ℕ} {p : Dev nD} (h : off = ![p.val]) (hb : ∀ a, off a + S1.size a ≤ S4.size a) :
    ((cc0_scratch2.slice (Rect.unit (s := S4) off S1.size hb)).squeeze S_ squeezes_S1_S_).sem = recvS p := by
  subst h; revert p hb; decide

/-- What a semaphore of a device is for. -/
inductive Role
  | bar
  | send (j : Fin 3)
  | recv (p : Dev nD)
  | other
deriving DecidableEq

/-- The semaphores by their place in the device's list: the three of the staging buffers first, then the sends, then
    the arrivals. -/
def role : SemLoc sig → Role
  | .reg _ => .bar
  | .dma q => (![.other, .other, .other, .send 0, .send 1, .send 2, .recv 0, .recv 1, .recv 2, .recv 3] : Fin 10 → Role) q

theorem role_bar : role (.reg barS) = .bar := rfl
theorem role_send (j : Fin 3) : role (.dma (sendS j)) = .send j := by revert j; decide
theorem role_recv (p : Dev nD) : role (.dma (recvS p)) = .recv p := by revert p; decide

abbrev barCell (c : Dev nD) : GSem nD τ sig := ((c : Thread nD τ), .reg barS)
abbrev sendCell (c : Dev nD) (j : Fin 3) : GSem nD τ sig := ((c : Thread nD τ), .dma (sendS j))
abbrev recvCell (c p : Dev nD) : GSem nD τ sig := ((c : Thread nD τ), .dma (recvS p))

/-- What one block's transfer counts on a semaphore, whichever of the two buffers the block lies in. -/
abbrev N : ℕ := (slot 0).view.dmaCredit
theorem N_pos : 0 < N := View.dmaCredit_pos _ (by decide)
theorem credit_slot (p : Dev nD) : (slot p).view.dmaCredit = N := rfl
theorem credit_xBlk (p : Dev nD) : (xBlk p).view.dmaCredit = N := rfl

/-! ## The slab as four blocks, the scratch as four slots -/

/-- The elements of block `p`, of slot `p`. -/
abbrev xSet (p : Dev nD) : Finset S1024x256.Idx := (xBlk p).view.set
abbrev sSet (p : Dev nD) : Finset S4x256x256.Idx := (slot p).view.set

theorem xSet_eq (p : Dev nD) : xSet p = (xRect p).set := View.set_slice_whole _ _
theorem sSet_eq (p : Dev nD) : sSet p = (sRect p).set := (View.set_reshape _ _).trans (View.set_slice_whole _ _)

theorem xSet_disjoint (p p' : Dev nD) (h : p ≠ p') : Disjoint (xSet p) (xSet p') := by
  rw [xSet_eq, xSet_eq]
  exact Ring.lead_disjoint (s := S1024x256) (NB := 4) 0 256 (fun p => ![256 * p.val, 0]) S256x256.size xRow_inb (fun _ => rfl) rfl p p' h
theorem xSet_cover : Finset.univ.biUnion xSet = Finset.univ := by
  rw [funext xSet_eq]
  exact Ring.lead_cover (s := S1024x256) (NB := 4) 0 256 (fun p => ![256 * p.val, 0]) S256x256.size xRow_inb (fun _ => rfl)
    (fun b a h => by fin_cases a <;> first | exact absurd rfl h | rfl) rfl (fun a h => by fin_cases a <;> first | exact absurd rfl h | rfl) rfl

theorem sSet_disjoint (p p' : Dev nD) (h : p ≠ p') : Disjoint (sSet p) (sSet p') := by
  rw [sSet_eq, sSet_eq]
  exact Ring.lead_disjoint (s := S4x256x256) (NB := 4) 0 1 (fun p => ![p.val, 0, 0]) S1x256x256.size slot_inb
    (fun b => (Nat.one_mul b.val).symm) rfl p p' h
theorem sSet_cover : Finset.univ.biUnion sSet = Finset.univ := by
  rw [funext sSet_eq]
  exact Ring.lead_cover (s := S4x256x256) (NB := 4) 0 1 (fun p => ![p.val, 0, 0]) S1x256x256.size slot_inb
    (fun b => (Nat.one_mul b.val).symm)
    (fun b a h => by fin_cases a <;> first | exact absurd rfl h | rfl) rfl (fun a h => by fin_cases a <;> first | exact absurd rfl h | rfl) rfl

/-! ## Reading a slot as the load sees it

A transfer fills a slot as 256 × 256; the loads read it as 1 × 256 × 256. -/

section Read

variable {F : FTy → Type}

/-- A 256 × 256 block written as 1 × 256 × 256. -/
def lift (X : Vec F S256x256 .bf16) : Vec F S1x256x256 .bf16 := shapeCast S1x256x256 X (by decide)

theorem lift_apply_cast (X : Vec F S256x256 .bf16) : shapeCast S256x256 (lift X) shapeCasts_S1x256x256_S256x256 = X := by
  funext i
  show X (Shape.reshapeEquiv _ (Shape.reshapeEquiv _ i)) = X i
  rw [Shape.reshapeEquiv_reshapeEquiv, Shape.reshapeEquiv_self]

/-- What a load of slot `p` reads is what the transfer left there. -/
theorem load_slot (p : Dev nD) (f : (cc0_scratch0 : Ref sig .tc).ty.Contents (Elt F)) :
    sM.view.readAt (Elt F) (sRect p).toLoadRect f = lift ((slot p).view.read (Elt F) f) := by
  funext i
  show (sM.view.slice (sRect p)).read (Elt F) f i = (sM.view.slice (sRect p)).read (Elt F) f (Shape.reshapeEquiv _ (Shape.reshapeEquiv _ i))
  exact congrArg _ ((Shape.reshapeEquiv_self _ i).symm.trans (Shape.reshapeEquiv_reshapeEquiv _ _ i).symm)

end Read

end Cert.Exchange

end
-- ==== Proof.Protocol.lean ====
/-
# What the devices promise each other

Every device signals the barrier semaphore of the three others and then waits for three signals. The signal of `p` to
`c` hands `c` the right to write slot `c` of `p`'s scratch: `p` will not read that slot before the block has arrived.
After its wait a device owns slot "me" on every other device, and it sends block `p` of its slab of `x` into slot "me"
of device `p`. The arrival hands the slot back to its owner, filled; the send semaphore hands the source block back.

A semaphore here serves one round. Its duties are numbered by the transfer index `j`: on the barrier cell of `c`,
duty `j` is the signal of `tgt j c`. A send cell has the duty `0`, and so has the arrival cell of every slot but the
device's own, which nothing is ever sent to.
-/
module

public import proofs.«01_k».proof.Proof.Mesh

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state: one copy for the staging copies, one for the exchange -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The launch: any contents, counters at zero. -/
def s₀ : MemSt nD τ sig (Elt F) := ⟨m, fun _ => 0, ρ⟩

/-! ## Contents -/

/-- Device `c`'s slab of `x`, and its copy of `w`. -/
def slab (c : Dev nD) : (cc0_stg0_0 : Ref sig .tc).ty.Contents (Elt F) :=
  (win0_0.blk (0 : Fin 1)).view.read (Elt F) ((s₀ m ρ).mem ((c : Thread nD τ).loc main_arg0))
def wts (c : Dev nD) : (cc0_stg1_0 : Ref sig .tc).ty.Contents (Elt F) :=
  (win0_1.blk (0 : Fin 1)).view.read (Elt F) ((s₀ m ρ).mem ((c : Thread nD τ).loc main_arg1))

/-- The block device `s` has for device `c`: block `c` of its slab. -/
def blockFor (c s : Dev nD) : Vec F S256x256 .bf16 := (xBlk c).view.read (Elt F) (slab m ρ s)

/-- The rows of `w` that device `s`'s columns of `x` meet. -/
def wRows (c s : Dev nD) : Vec F S256x1024 .bf16 := wM.view.readAt (Elt F) (wRect s).toLoadRect (wts m ρ c)

/-- Slot `p` of device `c`'s scratch, in the buffer `f`; block `p` of its slab. -/
def slotPts (c p : Dev nD) (f : (cc0_scratch0 : Ref sig .tc).ty.Contents (Elt F)) : sProp 𝕄 :=
  (slot p).view.loc (c : Thread nD τ) ↦[(slot p).view.set]{fullShare} f
def blkPts (c p : Dev nD) : sProp 𝕄 :=
  (xBlk p).view.loc (c : Thread nD τ) ↦[(xBlk p).view.set]{fullShare} slab m ρ c

/-- Slot `s` of device `c` after the arrival: some buffer that reads, at the slot, the block `s` had for `c`. -/
def filled (c s : Dev nD) : sProp 𝕄 := iprop(∃ f, ⌜(slot s).view.read (Elt F) f = blockFor m ρ c s⌝ ∗ slotPts c s f)

instance slotPts_storable (c p : Dev nD) (f) : BI.Storable (upEmb : UEmb _ 𝕄) (slotPts (F := F) c p f) := by
  unfold slotPts; infer_instance
instance blkPts_storable (c p : Dev nD) : BI.Storable (upEmb : UEmb _ 𝕄) (blkPts (F := F) m ρ c p) := by
  unfold blkPts; infer_instance
instance filled_storable (c s : Dev nD) : BI.Storable (upEmb : UEmb _ 𝕄) (filled (F := F) m ρ c s) := by
  unfold filled; infer_instance

/-! ## The schedule -/

/-- What the signal of `p` hands device `c`. -/
def barPay (c p : Dev nD) : sProp 𝕄 := iprop((∃ f, slotPts p c f) ∗ reached ER (recvCell p c) 0)

/-- The duties of a cell of device `c` by what the semaphore is for; what a unit counts; what it hands over. -/
def dutiesOf (c : Dev nD) : Role → Finset (Fin 3)
  | .bar => Finset.univ
  | .send _ => {0}
  | .recv s => if s = c then ∅ else {0}
  | .other => ∅
def amountAt : Role → ℕ
  | .bar => 1
  | _ => N
def payAt (c : Dev nD) (d : Fin 3) : Role → sProp 𝕄
  | .bar => barPay c (tgt d c)
  | .send j => blkPts m ρ c (tgt j c)
  | .recv s => filled m ρ c s
  | .other => iprop(emp)

def rd : Rounds.Schedule (GSem nD τ sig) (Fin 3) 𝕄 where
  duties g r := if r = 0 ∧ g.1.2 = .tc then dutiesOf g.1.1 (role g.2) else ∅
  unitless _ := False
  amount g _ _ := amountAt (role g.2)
  payload g _ d := payAt m ρ g.1.1 d (role g.2)
  amount_pos g _ _ _ := by
    show 0 < amountAt (role g.2)
    cases role g.2 <;> first | exact Nat.one_pos | exact N_pos

instance rd_payload_storable (g : GSem nD τ sig) (r : ℕ) (d : Fin 3) :
    BI.Storable (upEmb : UEmb _ 𝕄) ((rd (F := F) m ρ).payload g r d) := by
  show BI.Storable upEmb (payAt m ρ g.1.1 d (role g.2))
  cases role g.2 <;> (unfold payAt; first | (unfold barPay; infer_instance) | infer_instance)

section Sched

omit [FloatOps F]

theorem duties_later (g : GSem nD τ sig) : ∀ r, 1 ≤ r → (rd (F := F) m ρ).duties g r = ∅ :=
  fun r hr => if_neg fun h => by omega

variable (c : Dev nD)

theorem duties_zero (sm : SemLoc sig) : (rd (F := F) m ρ).duties ((c : Thread nD τ), sm) 0 = dutiesOf c (role sm) := by
  dsimp only [rd]; exact if_pos ⟨rfl, rfl⟩
theorem duties_bar : (rd (F := F) m ρ).duties (barCell c) 0 = Finset.univ := duties_zero m ρ c _
theorem duties_send (j : Fin 3) : (rd (F := F) m ρ).duties (sendCell c j) 0 = {0} := by
  rw [duties_zero, role_send]; rfl
theorem duties_recv {s : Dev nD} (h : s ≠ c) : (rd (F := F) m ρ).duties (recvCell c s) 0 = {0} := by
  rw [duties_zero, role_recv]; exact if_neg h
/-- Nothing is sent to a device's own slot. -/
theorem duties_own (r : ℕ) : (rd (F := F) m ρ).duties (recvCell c c) r = ∅ := by
  rcases Nat.eq_zero_or_pos r with rfl | h
  · rw [duties_zero, role_recv]; exact if_pos rfl
  · exact duties_later m ρ _ r h

theorem amount_bar (d : Fin 3) : (rd (F := F) m ρ).amount (barCell c) 0 d = 1 := rfl
theorem amount_send (j d : Fin 3) : (rd (F := F) m ρ).amount (sendCell c j) 0 d = N := by
  show amountAt (role (.dma (sendS j))) = N; rw [role_send]; rfl
theorem amount_recv (s : Dev nD) (d : Fin 3) : (rd (F := F) m ρ).amount (recvCell c s) 0 d = N := by
  show amountAt (role (.dma (recvS s))) = N; rw [role_recv]; rfl

theorem expect_bar : (rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (j : Fin 3) : (rd (F := F) m ρ).expect (sendCell c j) 0 = N := by
  unfold Schedule.expect Schedule.amountOf; rw [duties_send, Finset.sum_singleton, amount_send]
theorem expect_recv {s : Dev nD} (h : s ≠ c) : (rd (F := F) m ρ).expect (recvCell c s) 0 = N := by
  unfold Schedule.expect Schedule.amountOf; rw [duties_recv m ρ c h, Finset.sum_singleton, amount_recv]

theorem payload_bar (d : Fin 3) : (rd (F := F) m ρ).payload (barCell c) 0 d = barPay c (tgt d c) := rfl
theorem payload_send (j d : Fin 3) : (rd (F := F) m ρ).payload (sendCell c j) 0 d = blkPts m ρ c (tgt j c) := by
  show payAt m ρ c d (role (.dma (sendS j))) = _; rw [role_send]; rfl
theorem payload_recv (s : Dev nD) (d : Fin 3) : (rd (F := F) m ρ).payload (recvCell c s) 0 d = filled m ρ c s := by
  show payAt m ρ c d (role (.dma (recvS s))) = _; rw [role_recv]; rfl

/-- What a wait for the whole round receives. -/
theorem rest_bar : bigSep ((rd (F := F) m ρ).duties (barCell c) 0 \ ∅) (fun d => (rd (F := F) m ρ).payload (barCell c) 0 d)
    = bigSep Finset.univ fun j => barPay c (tgt j c) := by
  rw [Finset.sdiff_empty, duties_bar]; rfl
theorem rest_send (j : Fin 3) : bigSep ((rd (F := F) m ρ).duties (sendCell c j) 0 \ ∅) (fun d => (rd (F := F) m ρ).payload (sendCell c j) 0 d)
    = blkPts m ρ c (tgt j c) := by
  rw [Finset.sdiff_empty, duties_send, bigSep_singleton, payload_send]
theorem rest_recv {s : Dev nD} (h : s ≠ c) :
    bigSep ((rd (F := F) m ρ).duties (recvCell c s) 0 \ ∅) (fun d => (rd (F := F) m ρ).payload (recvCell c s) 0 d) = filled m ρ c s := by
  rw [Finset.sdiff_empty, duties_recv m ρ c h, bigSep_singleton, payload_recv]

end Sched

/-! ## What a device owes, and the order of the waits -/

/-- Device `c` owes a block to slot `c` of the three others, and a signal to the three others, in the order the kernel
    pays them (last summand first). -/
def oSend (c : Dev nD) (j : Fin 3) : CellTallies nD τ sig Unit := tallyAt (recvCell (tgt j c) c) () N
def oBar (c : Dev nD) (j : Fin 3) : CellTallies nD τ sig Unit := tallyAt (barCell (tgt j c)) () 1
def owedSends (c : Dev nD) : CellTallies nD τ sig Unit := oSend c 2 + oSend c 1 + oSend c 0
def owedAll (c : Dev nD) : CellTallies nD τ sig Unit := owedSends c + oBar c 1 + oBar c 2 + oBar c 0

def L (g : GSem nD τ sig) : Finset Unit := if g.1.2 = .tc then {()} else ∅

/-- The barrier comes before the arrivals; everything else is below both. -/
def rank : Role → ℕ
  | .bar => 1
  | .recv _ => 2
  | _ => 0
def lv (g : GSem nD τ sig) (_ : Unit) : ℕ := rank (role g.2)

theorem L_tc (c : Dev nD) (sm : SemLoc sig) : L ((c : Thread nD τ), sm) = {()} := if_pos rfl
theorem lv_recv (c p : Dev nD) (u : Unit) : lv (recvCell c p) u = 2 := by
  show rank (role (.dma (recvS p))) = 2; rw [role_recv]; rfl

theorem owedSends_pos {c : Dev nD} {g : GSem nD τ sig} {u : Unit} (h : 0 < owedSends c g u) : ∃ j, g = recvCell (tgt j c) c := by
  by_contra hn
  have hne : ∀ j, oSend c j g u = 0 := fun j => by
    unfold oSend; rw [tallyAt_apply, if_neg fun h' => hn ⟨j, h'.1⟩]
  unfold owedSends at h
  rw [Pi.add_apply, Finsupp.add_apply, Pi.add_apply, Finsupp.add_apply, hne, hne, hne] at h
  exact Nat.lt_irrefl 0 h

theorem owedAll_pos {c : Dev nD} {g : GSem nD τ sig} {u : Unit} (h : 0 < owedAll c g u) :
    (∃ j, g = recvCell (tgt j c) c) ∨ ∃ j, g = barCell (tgt j c) := by
  by_contra hn
  rw [not_or] at hn
  have hne : ∀ j, oBar c j g u = 0 := fun j => by
    unfold oBar; rw [tallyAt_apply, if_neg fun h' => hn.2 ⟨j, h'.1⟩]
  have hs : owedSends c g u = 0 := Nat.eq_zero_of_not_pos fun h' => hn.1 (owedSends_pos h')
  unfold owedAll at h
  rw [Pi.add_apply, Finsupp.add_apply, Pi.add_apply, Finsupp.add_apply, Pi.add_apply, Finsupp.add_apply, hne, hne, hne, hs] at h
  exact Nat.lt_irrefl 0 h

omit [FloatOps F] in
/-- A staging copy's wait comes before everything a device owes. -/
theorem mayWait_stage (c : Dev nD) (q : DmaSem sig) (hq : rank (role (.dma q)) = 0) (O : CellTallies nD τ sig Unit)
    (hO : O = owedAll c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedAll_pos hg with ⟨j, rfl⟩ | ⟨j, rfl⟩ <;> exact Finset.mem_singleton_self _)
      (fun p hp => by rw [Finset.mem_singleton.mp hp]; exact le_of_eq hq)
      (fun g u hg => by
        rcases owedAll_pos hg with ⟨j, rfl⟩ | ⟨j, rfl⟩
        · rw [lv_recv]; decide
        · exact Nat.one_pos)
  · rw [MayWait_zero]; iintro -; iempintro

omit [FloatOps F] in
/-- At its barrier wait a device owes blocks only. -/
theorem mayWait_bar (c : Dev nD) :
    (levAts L lv : sProp 𝕄) ⊢ MayWait (c : Thread nD τ) (.reg barS) () (owedSends c) :=
  MayOwe.of_cut (L := L) (lev := lv) 1 (fun p hp => by rw [Finset.mem_singleton.mp hp, L_tc]; exact Finset.mem_singleton_self _)
    (fun g u hg => by obtain ⟨j, rfl⟩ := owedSends_pos hg; exact Finset.mem_singleton_self _)
    (fun p hp => by rw [Finset.mem_singleton.mp hp]; exact le_rfl)
    (fun g u hg => by obtain ⟨j, rfl⟩ := owedSends_pos hg; rw [lv_recv]; decide)

/-! ## The cells of a device, counted -/

/-- A device's eight semaphores of the exchange: the barrier, three sends, four arrivals. -/
def csem : Fin 8 → SemLoc sig :=
  ![.reg barS, .dma (sendS 0), .dma (sendS 1), .dma (sendS 2), .dma (recvS 0), .dma (recvS 1), .dma (recvS 2), .dma (recvS 3)]
def ixS (j : Fin 3) : Fin 8 := ⟨1 + j.val, by have := j.isLt; omega⟩
def ixR (p : Dev nD) : Fin 8 := ⟨4 + p.val, by have : p.val < 4 := p.isLt; omega⟩

theorem csem_bar : csem 0 = .reg barS := rfl
theorem csem_send (j : Fin 3) : csem (ixS j) = .dma (sendS j) := by revert j; decide
theorem csem_recv (p : Dev nD) : csem (ixR p) = .dma (recvS p) := by revert p; decide
theorem csem_inj : Function.Injective csem := by decide

abbrev kcell (ck : Dev nD × Fin 8) : GSem nD τ sig := ((ck.1 : Thread nD τ), csem ck.2)

theorem kcell_inj : Function.Injective kcell := by
  rintro ⟨c, k⟩ ⟨c', k'⟩ h
  have h1 : c = c' := congrArg (fun g : GSem nD τ sig => g.1.1) h
  have h2 : k = k' := csem_inj (congrArg (fun g : GSem nD τ sig => g.2) h)
  rw [h1, h2]

/-! ## What a device starts from -/

/-- What every device knows: the invariant of every cell, at the name `K` the launch gave it, and that every cell has
    reached its round. -/
def records (K : Dev nD × Fin 8 → ℕ) : sProp 𝕄 :=
  iprop((bigSep Finset.univ fun ck => cellInv ER (rd m ρ) (K ck) (kcell ck)) ∗ bigSep Finset.univ fun ck => reached ER (kcell ck) 0)

instance records_persistent (K : Dev nD × Fin 8 → ℕ) : BI.Persistent (records (F := F) m ρ K) := by unfold records; infer_instance

omit [FloatOps F] in
theorem records_inv (K : Dev nD × Fin 8 → ℕ) (c : Dev nD) (k : Fin 8) {sm : SemLoc sig} (h : csem k = sm) :
    records m ρ K ⊢ (cellInv ER (rd m ρ) (K (c, k)) ((c : Thread nD τ), sm) : sProp 𝕄) := by
  subst h
  unfold records
  exact (BI.sep_and.trans BI.and_elimL).trans (bigSep_elim (Finset.mem_univ (c, k)))
omit [FloatOps F] in
theorem records_reached (K : Dev nD × Fin 8 → ℕ) (c : Dev nD) (k : Fin 8) {sm : SemLoc sig} (h : csem k = sm) :
    records m ρ K ⊢ (reached ER ((c : Thread nD τ), sm) 0 : sProp 𝕄) := by
  subst h
  unfold records
  exact (BI.sep_and.trans BI.and_elimR).trans (bigSep_elim (Finset.mem_univ (c, k)))

/-- Device `c`'s positions on its own eight cells. -/
def places (c : Dev nD) : sProp 𝕄 := bigSep Finset.univ fun k => atPos ER (kcell (c, k)) 0 ∅ 0

/-- The duties device `c` discharges at its `j`-th transfer: its signal to `tgt j c`, the arrival there, its own send. -/
def tokens (c : Dev nD) (j : Fin 3) : sProp 𝕄 :=
  iprop(dutyTok ER (barCell (tgt j c)) 0 (opp j) ∗ dutyTok ER (recvCell (tgt j c) c) 0 0 ∗ dutyTok ER (sendCell c j) 0 0)

/-- What device `c` may wait for: three signals, and a block from each other device. -/
def credits (c : Dev nD) : sProp 𝕄 :=
  iprop(cred (tallyAt (barCell c) () 3) ∗ bigSep Finset.univ fun j => cred (tallyAt (recvCell c (tgt j c)) () N))

def ghost (K : Dev nD × Fin 8 → ℕ) (c : Dev nD) : sProp 𝕄 :=
  iprop(records m ρ K ∗ places c ∗ bigSep Finset.univ fun j => tokens c j)

def start (c : Dev nD) : sProp 𝕄 := iprop((∃ K, ghost m ρ K c) ∗ credits c ∗ levAts L lv)

/-- The whole scratch of device `c`. -/
def scratch (c : Dev nD) : sProp 𝕄 := iprop(∃ f, ((c : Thread nD τ).loc cc0_scratch0) ↦{fullShare} f)

def Φ₀ (c : Dev nD) : sProp 𝕄 := iprop(start m ρ c ∗ scratch c)
/-- At the end: the scratch, and every cell closed at zero. -/
def Φ₁ (c : Dev nD) : sProp 𝕄 := iprop(scratch (F := F) c ∗ bigSep Finset.univ fun k => semVal (kcell (c, k)) 0)

/-- What device `c` computes: the four products, its own block first, and the pointwise function of their sum. -/
def outAt (c : Dev nD) : (cc0_stg2_0 : Ref sig .tc).ty.Contents (Elt F) :=
  k0_pay4
    (k0_pay3 (k0_pay1 (blockFor m ρ c c) (wRows m ρ c c)) (k0_pay2 (lift (blockFor m ρ c (tgt 0 c)))) (wRows m ρ c (tgt 0 c))
      (lift (blockFor m ρ c (tgt 1 c))) (wRows m ρ c (tgt 1 c)))
    (lift (blockFor m ρ c (tgt 2 c))) (wRows m ρ c (tgt 2 c))

end Cert.Exchange

end
-- ==== Proof.Steps.lean ====
/-
# The steps of the exchange

One lemma per kind of step: a signal, the wait for the three signals, a transfer, the wait for an arrival, the wait for
a send to be done. Each is stated for device `c`'s `j`-th partner; the kernel's own terms for the device, the view and
the semaphore enter through equations.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg)

/-- Device `c` runs `p`, then `Q` holds. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for so far. -/
def debt (c : Dev nD) (O : CellTallies nD τ sig Unit) : sProp 𝕄 := iprop(∃ W, owes (c : Thread nD τ) O W)

/-- A closed cell: its counter is zero. -/
abbrev closed (g : GSem nD τ sig) : sProp 𝕄 := semVal g 0

variable (K : Dev nD × Fin 8 → ℕ)

/-- Signalling the `j`-th partner hands it one slot of the scratch. -/
theorem step_signal (c : Dev nD) (j : Fin 3) (n : Dev nD) (hn : n = tgt j c) (k' : ℕ) (hk : 1 = k') (O : CellTallies nD τ sig Unit)
    {α : Type} {Q : α → sProp 𝕄} {k : PUnit → Prog (TpuEff nD τ sig (Elt F) Λ₀ .tc) α} :
    iprop(records m ρ K ∗ debt c (O + oBar c j) ∗ dutyTok ER (barCell (tgt j c)) 0 (opp j) ∗ ∃ f, slotPts (F := F) c (tgt j c) f)
      ⊢ iprop((debt c O -∗ runs c (k ⟨⟩) Q) -∗ runs c (.op (.semSignal (n : Thread nD τ) barS k') k) Q) := by
  subst hn; subst hk
  unfold debt
  iintro ⟨#HR, ⟨%W, HO⟩, Ht, Hslot⟩
  iintro Hk
  iapply (Rounds.wp_signal 𝒱₀ ER (rd m ρ) (c : Thread nD τ) none (dst := (tgt j c : Thread nD τ)) (κ := K (tgt j c, 0))
      (d := opp j) (by rw [duties_bar]; exact Finset.mem_univ _) (amount_bar m ρ (tgt j c) (opp j)) () O rfl (W := W))
    $$ [HO Ht Hslot]
  · isplitr; · iapply (records_inv m ρ K (tgt j c) 0 csem_bar); iexact HR
    isplitl [HO]; · iexact HO
    isplitl [Ht]; · iexact Ht
    isplitl [Hslot]
    · rw [payload_bar, tgt_opp]; unfold barPay
      isplitl [Hslot]; · iexact Hslot
      iapply (records_reached m ρ K c (ixR (tgt j c)) (csem_recv _)); iexact HR
    · iapply (records_reached m ρ K (tgt j c) 0 csem_bar); iexact HR
  iintro HO
  iapply Hk; iexists W; iexact HO

omit [FloatOps F] in
theorem slots_of_barPay (c : Dev nD) : (bigSep Finset.univ fun j => (barPay c (tgt j c) : sProp 𝕄))
    ⊢ bigSep Finset.univ fun j => iprop(∃ f, slotPts (F := F) (tgt j c) c f) :=
  bigSep_mono fun j _ => by unfold barPay; exact BI.sep_and.trans BI.and_elimL

/-- After three signals a device may write its slot on each of the three others, and its barrier semaphore is at rest. -/
theorem step_barrier (c : Dev nD) (k' : ℕ) (hk : 3 = k')
    {α : Type} {Q : α → sProp 𝕄} {k : PUnit → Prog (TpuEff nD τ sig (Elt F) Λ₀ .tc) α} :
    iprop(records m ρ K ∗ debt c (owedSends c) ∗ cred (tallyAt (barCell c) () 3) ∗ levAts L lv ∗ atPos ER (barCell c) 0 ∅ 0)
      ⊢ iprop(((debt c (owedSends c) ∗ closed (barCell c) ∗ bigSep Finset.univ fun j => iprop(∃ f, slotPts (F := F) (tgt j c) c f))
            -∗ runs c (k ⟨⟩) Q)
          -∗ runs c (.op (.semWait barS k') k) Q) := by
  subst hk
  unfold debt
  iintro ⟨#HR, ⟨%W, HO⟩, Hc, Hl, Hat⟩
  iintro Hk
  iapply (Rounds.wp_wait_rest_token 𝒱₀ ER (rd m ρ) (c : Thread nD τ) none (κ := K (c, 0))
      (wpE_semWait_eq 𝒱₀ (c : Thread nD τ) none Set.univ) (Set.mem_univ _) () (O := owedSends c) (W := W) (R := 0) (m := 0) (T := ∅)
      (by rw [expect_bar])) $$ [Hc HO Hat Hl]
  · isplitr; · iapply (records_inv m ρ K c 0 csem_bar); iexact HR
    isplitl [Hc]; · iexact Hc
    isplitl [HO]; · iexact HO
    isplitl [Hl]; · iapply (mayWait_bar c); iexact Hl
    iexact Hat
  iintro ⟨HO, Hat, -, Hpay⟩
  imod (Rounds.cell_close ER (rd m ρ) (Set.mem_univ (K (c, 0))) (fun h => h) (R := 0 + 1) (duties_later m ρ (barCell c))) $$ [Hat] with Hz
  · isplitr; · iapply (records_inv m ρ K c 0 csem_bar); iexact HR
    iexact Hat
  iapply Hk
  isplitl [HO]; · iexists _; iexact HO
  isplitl [Hz]; · iexact Hz
  ihave Hp := (Entails.of_eq (rest_bar m ρ c)) $$ Hpay
  iapply (slots_of_barPay c) $$ Hp

omit [FloatOps F] in
/-- A slot that has just been written reads what was written. -/
theorem landing (c d : Dev nD) (fd : (cc0_scratch0 : Ref sig .tc).ty.Contents (Elt F)) :
    ((slot c).view.loc (d : Thread nD τ) ↦[(slot c).view.set]{fullShare}
        ((slot c).view.write (Elt F) fd ((xBlk d).view.read (Elt F) (slab m ρ c)) Finset.univ))
      ⊢ (filled m ρ d c : sProp 𝕄) := by
  unfold filled slotPts
  iintro H
  iexists ((slot c).view.write (Elt F) fd ((xBlk d).view.read (Elt F) (slab m ρ c)) Finset.univ)
  isplitr
  · ipureintro; exact View.read_write_univ _ _
  · iexact H

/-- Sending the `j`-th partner its block: the block is written in the slot it is meant for. -/
theorem step_send (c : Dev nD) (j : Fin 3) (n : Dev nD) (hn : n = tgt j c)
    (src dst : Memref sig .tc .vmem S256x256 .bf16) (hs : src = xBlk (tgt j c)) (hd : dst = slot c)
    (qs qr : DmaSem sig) (hqs : qs = sendS j) (hqr : qr = recvS c) (O : CellTallies nD τ sig Unit)
    {hsc : (dst : Memref sig (Dev.tc n : Thread nD τ).2.kind .vmem S256x256 .bf16).view.ref.isScScratch = false}
    {hsrc : src.view.WordExact} {hdst : (dst : Memref sig (Dev.tc n : Thread nD τ).2.kind .vmem S256x256 .bf16).view.WordExact}
    {hsem : DmaTarget.Typed .vmem (.dma qr) (.remote (Dev.tc n : Thread nD τ) (dst : Memref sig (Dev.tc n : Thread nD τ).2.kind .vmem S256x256 .bf16) (.dma qs) hsc)}
    {α : Type} {Q : α → sProp 𝕄} {k : PUnit → Prog (TpuEff nD τ sig (Elt F) Λ₀ .tc) α} :
    iprop(records m ρ K ∗ debt c (O + oSend c j) ∗ dutyTok ER (recvCell (tgt j c) c) 0 0 ∗ dutyTok ER (sendCell c j) 0 0
        ∗ blkPts m ρ c (tgt j c) ∗ ∃ f, slotPts (F := F) (tgt j c) c f)
      ⊢ iprop(((debt c O ∗ cred (tallyAt (sendCell c j) () N)) -∗ runs c (k ⟨⟩) Q)
          -∗ runs c (.op (.enqueueDma src (.remote (Dev.tc n : Thread nD τ) dst (.dma qs) hsc) (.dma qr) hsrc hdst hsem) k) Q) := by
  subst hn; subst hs; subst hd; subst hqs; subst hqr
  unfold debt
  iintro ⟨#HR, ⟨%W, HO⟩, HtR, HtS, Hx, ⟨%fd, Hslot⟩⟩
  iintro Hk
  iapply (Rounds.wp_send_pointsTo 𝒱₀ ER (rd m ρ) (c : Thread nD τ) none (κ₁ := K (c, ixS j)) (κ₂ := K (tgt j c, ixR c))
      (r₁ := 0) (r₂ := 0) (d₁ := 0) (d₂ := 0) (c' := (tgt j c : Thread nD τ)) (src := xBlk (tgt j c)) (dst := slot c)
      (q := fullShare) (fs := slab m ρ c) (fd := fd)
      (by rw [duties_send]; exact Finset.mem_singleton_self _)
      (by rw [duties_recv m ρ (tgt j c) (tgt_ne j c).symm]; exact Finset.mem_singleton_self _)
      () () N rfl (amount_send m ρ c j 0) (amount_recv m ρ (tgt j c) c 0) O rfl (W := W)
      (by rw [payload_send]; exact BI.Entails.refl _)
      (by rw [payload_recv]; exact landing m ρ c (tgt j c) fd)) $$ [HO HtR HtS Hx Hslot]
  · isplitr; · iapply (records_inv m ρ K c (ixS j) (csem_send j)); iexact HR
    isplitr; · iapply (records_inv m ρ K (tgt j c) (ixR c) (csem_recv c)); iexact HR
    isplitl [Hx]; · unfold blkPts; iexact Hx
    isplitl [Hslot]; · unfold slotPts; iexact Hslot
    isplitl [HO]; · iexact HO
    isplitl [HtS]; · iexact HtS
    isplitr; · iapply (records_reached m ρ K c (ixS j) (csem_send j)); iexact HR
    isplitl [HtR]; · iexact HtR
    iapply (records_reached m ρ K (tgt j c) (ixR c) (csem_recv c)); iexact HR
  iintro ⟨Hc, HO⟩
  iapply Hk
  isplitl [HO]; · iexists W; iexact HO
  iexact Hc

/-- Waiting for the block of the `j`-th partner. -/
theorem step_recv (c : Dev nD) (j : Fin 3) (q : DmaSem sig) (hq : q = recvS (tgt j c))
    (src dst : Memref sig .tc .vmem S256x256 .bf16) (hdst : dst = slot (tgt j c)) {h₁ : src.view.WordExact} {h₂ : dst.view.WordExact}
    {α : Type} {Q : α → sProp 𝕄} {k : PUnit → Prog (TpuEff nD τ sig (Elt F) Λ₀ .tc) α} :
    iprop(records m ρ K ∗ debt c 0 ∗ cred (tallyAt (recvCell c (tgt j c)) () N) ∗ atPos ER (recvCell c (tgt j c)) 0 ∅ 0)
      ⊢ iprop(((debt c 0 ∗ closed (recvCell c (tgt j c)) ∗ filled m ρ c (tgt j c)) -∗ runs c (k ⟨⟩) Q)
          -∗ runs c (.op (.waitDma2 q src dst h₁ h₂) k) Q) := by
  subst hq
  have hd : dst.view.dmaCredit = N := by subst hdst; rfl
  unfold debt
  rw [← hd]
  iintro ⟨#HR, ⟨%W, HO⟩, Hc, Hat⟩
  iintro Hk
  iapply (Rounds.wp_wait_rest_token 𝒱₀ ER (rd m ρ) (c : Thread nD τ) none (κ := K (c, ixR (tgt j c)))
      (wpE_waitDma2_eq 𝒱₀ (c : Thread nD τ) none Set.univ) (Set.mem_univ _) () (O := 0) (W := W) (R := 0) (m := 0) (T := ∅)
      (by rw [Nat.zero_add, expect_recv m ρ c (tgt_ne j c), hd])) $$ [Hc HO Hat]
  · isplitr; · iapply (records_inv m ρ K c (ixR (tgt j c)) (csem_recv _)); iexact HR
    isplitl [Hc]; · iexact Hc
    isplitl [HO]; · iexact HO
    isplitr; · rw [MayWait_zero]; iempintro
    iexact Hat
  iintro ⟨HO, Hat, -, Hpay⟩
  imod (Rounds.cell_close ER (rd m ρ) (Set.mem_univ (K (c, ixR (tgt j c)))) (fun h => h) (R := 0 + 1)
    (duties_later m ρ (recvCell c (tgt j c)))) $$ [Hat] with Hz
  · isplitr; · iapply (records_inv m ρ K c (ixR (tgt j c)) (csem_recv _)); iexact HR
    iexact Hat
  iapply Hk
  isplitl [HO]; · iexists _; iexact HO
  isplitl [Hz]; · iexact Hz
  iapply (Entails.of_eq (rest_recv m ρ c (tgt_ne j c))) $$ Hpay

/-- Waiting for the `j`-th send to be done: the source block comes back. -/
theorem step_sent (c : Dev nD) (j : Fin 3) (q : DmaSem sig) (hq : q = sendS j)
    (src dst : Memref sig .tc .vmem S256x256 .bf16) (hdst : dst = xBlk (tgt j c)) {h₁ : src.view.WordExact} {h₂ : dst.view.WordExact}
    {α : Type} {Q : α → sProp 𝕄} {k : PUnit → Prog (TpuEff nD τ sig (Elt F) Λ₀ .tc) α} :
    iprop(records m ρ K ∗ debt c 0 ∗ cred (tallyAt (sendCell c j) () N) ∗ atPos ER (sendCell c j) 0 ∅ 0)
      ⊢ iprop(((debt c 0 ∗ closed (sendCell c j) ∗ blkPts m ρ c (tgt j c)) -∗ runs c (k ⟨⟩) Q)
          -∗ runs c (.op (.waitDma2 q src dst h₁ h₂) k) Q) := by
  subst hq
  have hd : dst.view.dmaCredit = N := by subst hdst; rfl
  unfold debt
  rw [← hd]
  iintro ⟨#HR, ⟨%W, HO⟩, Hc, Hat⟩
  iintro Hk
  iapply (Rounds.wp_wait_rest_token 𝒱₀ ER (rd m ρ) (c : Thread nD τ) none (κ := K (c, ixS j))
      (wpE_waitDma2_eq 𝒱₀ (c : Thread nD τ) none Set.univ) (Set.mem_univ _) () (O := 0) (W := W) (R := 0) (m := 0) (T := ∅)
      (by rw [Nat.zero_add, expect_send, hd])) $$ [Hc HO Hat]
  · isplitr; · iapply (records_inv m ρ K c (ixS j) (csem_send j)); iexact HR
    isplitl [Hc]; · iexact Hc
    isplitl [HO]; · iexact HO
    isplitr; · rw [MayWait_zero]; iempintro
    iexact Hat
  iintro ⟨HO, Hat, -, Hpay⟩
  imod (Rounds.cell_close ER (rd m ρ) (Set.mem_univ (K (c, ixS j))) (fun h => h) (R := 0 + 1) (duties_later m ρ (sendCell c j))) $$ [Hat] with Hz
  · isplitr; · iapply (records_inv m ρ K c (ixS j) (csem_send j)); iexact HR
    iexact Hat
  iapply Hk
  isplitl [HO]; · iexists _; iexact HO
  isplitl [Hz]; · iexact Hz
  iapply (Entails.of_eq (rest_send m ρ c j)) $$ Hpay

/-- The arrival semaphore of the device's own slot serves nothing, so it is at rest from the start. -/
theorem own_closed (c : Dev nD) :
    iprop(records m ρ K ∗ atPos ER (recvCell c c) 0 ∅ 0) ⊢ (iprop(|={Set.univ}=> closed (recvCell c c)) : sProp 𝕄) := by
  iintro ⟨#HR, Hat⟩
  iapply (Rounds.cell_close ER (rd m ρ) (Set.mem_univ (K (c, ixR c))) (fun h => h) (R := 0) (fun r _ => duties_own m ρ c r)) $$ [Hat]
  isplitr; · iapply (records_inv m ρ K c (ixR c) (csem_recv c)); iexact HR
  iexact Hat

end Cert.Exchange

end
-- ==== Proof.Body.lean ====
/-
# One device's run of the kernel

The kernel's body, executed symbolically at a device `c`: three signals, the wait for three, three sends, the product
of the device's own block, then per partner the wait for its block and one more product, the result's store, and the
waits for the sends.
-/
module

public import proofs.«01_k».proof.Proof.Steps
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over the devices and over a device's cells -/

section Families

variable {M : Type} [URA M]

/-- The devices are `c` and its three partners. -/
theorem bigSep_devices (c : Dev nD) (Φ : Dev nD → sProp M) :
    bigSep Finset.univ Φ = iprop(Φ c ∗ bigSep Finset.univ fun j : Fin 3 => Φ (tgt j c)) := by
  have h : (Finset.univ : Finset (Dev nD)) = insert c (Finset.univ.map ⟨fun j => tgt j c, tgt_inj c⟩) := by
    revert c; decide
  have hc : c ∉ Finset.univ.map ⟨fun j => tgt j c, tgt_inj c⟩ := by revert c; decide
  rw [h, bigSep_insert hc, bigSep_map]; rfl

/-- A device's cells are the barrier's, the sends' and the arrivals'. -/
theorem bigSep_cells (Φ : Fin 8 → sProp M) :
    bigSep Finset.univ Φ = iprop(Φ 0 ∗ (bigSep Finset.univ fun j => Φ (ixS j)) ∗ bigSep Finset.univ fun p => Φ (ixR p)) := by
  have h : (Finset.univ : Finset (Fin 8))
      = insert 0 (Finset.univ.map ⟨ixS, by decide⟩ ∪ Finset.univ.map ⟨ixR, by decide⟩) := by decide
  rw [h, bigSep_insert (by decide), bigSep_union (by decide), bigSep_map, bigSep_map]; rfl

theorem kcell_send (c : Dev nD) (j : Fin 3) : kcell (c, ixS j) = sendCell c j := by unfold kcell; rw [csem_send]
theorem kcell_recv (c p : Dev nD) : kcell (c, ixR p) = recvCell c p := by unfold kcell; rw [csem_recv]

/-- The cells of device `c`, its own slot's arrival apart from its partners'. -/
theorem cells_split (c : Dev nD) (Φ : GSem nD τ sig → sProp M) :
    bigSep Finset.univ (fun k => Φ (kcell (c, k))) = iprop(Φ (barCell c) ∗ (bigSep Finset.univ fun j => Φ (sendCell c j))
      ∗ Φ (recvCell c c) ∗ bigSep Finset.univ fun j => Φ (recvCell c (tgt j c))) := by
  rw [bigSep_cells, bigSep_congr fun j _ => congrArg Φ (kcell_send c j), bigSep_congr fun p _ => congrArg Φ (kcell_recv c p),
    bigSep_devices c]
  rfl

end Families

omit [FloatOps F] in
theorem debt_intro (c : Dev nD) (O : CellTallies nD τ sig Unit) (W : Waits sig Unit) : owes (c : Thread nD τ) O W ⊢ (debt c O : sProp 𝕄) := by
  unfold debt; iintro H; iexists W; iexact H

/-! ## The slab and the scratch, whole and in pieces -/

omit [FloatOps F]

theorem slab_blocks (c : Dev nD) :
    (((c : Thread nD τ).loc cc0_stg0_0) ↦{fullShare} slab m ρ c : sProp 𝕄) = bigSep Finset.univ fun p => blkPts m ρ c p :=
  Ring.pointsTo_blocks (ℓ := (c : Thread nD τ).loc cc0_stg0_0) xSet xSet_disjoint xSet_cover _

theorem some_slot (c p : Dev nD) (f : Buf (Elt F) ((c : Thread nD τ).loc cc0_scratch0)) :
    (((c : Thread nD τ).loc cc0_scratch0) ↦[sSet p]{fullShare} f : sProp 𝕄) ⊢ iprop(∃ f, slotPts (F := F) c p f) := by
  iintro H; iexists f; unfold slotPts; iexact H

theorem some_slots (c : Dev nD) (f : Buf (Elt F) ((c : Thread nD τ).loc cc0_scratch0)) :
    (bigSep Finset.univ fun p => (((c : Thread nD τ).loc cc0_scratch0) ↦[sSet p]{fullShare} f : sProp 𝕄))
      ⊢ bigSep Finset.univ fun p => iprop(∃ f, slotPts (F := F) c p f) :=
  bigSep_mono fun p _ => some_slot c p f

theorem scratch_slots (c : Dev nD) :
    scratch (F := F) c ⊢ bigSep Finset.univ fun p => iprop(∃ f, slotPts (F := F) c p f) := by
  unfold scratch
  iintro ⟨%f, H⟩
  ihave H := (Entails.of_eq (Ring.pointsTo_blocks (ℓ := (c : Thread nD τ).loc cc0_scratch0) sSet sSet_disjoint sSet_cover f)) $$ H
  iapply (some_slots c f) $$ H

include m in
theorem slots_scratch (c : Dev nD) :
    (bigSep Finset.univ fun p => iprop(∃ f, slotPts (F := F) c p f)) ⊢ scratch (F := F) c := by
  have h := Ring.pointsTo_blocks_join_exists (Ix := Unit) (Val := Elt F) (Name := ℕ) (U := UU) (Lvl := ℕ)
    (ℓ := (c : Thread nD τ).loc cc0_scratch0) sSet sSet_disjoint sSet_cover (q := fullShare) (m _)
  exact h

theorem filled_slot (c s : Dev nD) : filled m ρ c s ⊢ (iprop(∃ f, slotPts (F := F) c s f) : sProp 𝕄) := by
  unfold filled
  iintro ⟨%f, -, H⟩
  iexists f; iexact H

/-! ## The pipeline's data: one grid point -/

section Data

variable [FloatOps F]

/-- Before the point the slab and `w` are staged; after it the result is. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => slab m ρ c
    | ⟨1, _⟩ => wts m ρ c
    | ⟨2, _⟩ => outAt m ρ c
  Φ t := match t with
    | ⟨0, _⟩ => Φ₀ m ρ c
    | ⟨_ + 1, _⟩ => Φ₁ c
  q _ := fullShare
  owed t := match t with
    | ⟨0, _⟩ => owedAll c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` held whole at `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The accesses of the body -/

abbrev oRect : Rect S256x1024 := Rect.unit (s := S256x1024) ![0, 0] S256x1024.size inb_S256x1024_S256x1024_0_0

omit [FloatOps F] in
theorem zero2 : (![0, 0] : Fin 2 → ℕ) = fun _ => 0 := funext fun a => by fin_cases a <;> rfl
omit [FloatOps F] in
theorem store_out (f w : (cc0_stg2_0 : Ref sig .tc).ty.Contents (Elt F)) :
    (oM.access oRect : View sig .tc _ _ _).write (Elt F) f w Finset.univ = w :=
  Memref.write_access_unit_zero_univ (Elt F) cc0_stg2_0 zero2 _ f w

/-- Loading block `p` of the slab. -/
theorem step_load_x (c p : Dev nD) {off : Fin 2 → ℕ} (h : off = ![256 * p.val, 0]) {hb : ∀ a, off a + S256x256.size a ≤ S1024x256.size a}
    {hl : xM.view.LoadsAt (Rect.unit (s := S1024x256) off S256x256.size hb).toLoadRect}
    {α : Type} {Q : α → sProp 𝕄} {k : (S256x256.Idx → Elt F .bf16) → Prog (TpuEff nD τ sig (Elt F) Λ₀ .tc) α} :
    blkPts m ρ c p ⊢ iprop((blkPts m ρ c p -∗ runs c (k (blockFor m ρ p c)) Q)
      -∗ runs c (.op (.load xM (Rect.unit (s := S1024x256) off S256x256.size hb).toLoadRect hl) k) Q) := by
  subst h
  unfold blkPts
  exact wp_load_rect 𝒱₀ (c : Thread nD τ) none Set.univ (m := xM) (r := xRect p) (f := slab m ρ c) (Finset.Subset.refl _)

/-- Loading the rows of `w` that meet device `s`'s columns of `x`. -/
theorem step_load_w (c s : Dev nD) {off : Fin 2 → ℕ} (h : off = ![256 * s.val, 0]) {hb : ∀ a, off a + S256x1024.size a ≤ S1024x1024.size a}
    {hl : wM.view.LoadsAt (Rect.unit (s := S1024x1024) off S256x1024.size hb).toLoadRect}
    {α : Type} {Q : α → sProp 𝕄} {k : (S256x1024.Idx → Elt F .bf16) → Prog (TpuEff nD τ sig (Elt F) Λ₀ .tc) α} :
    (((c : Thread nD τ).loc cc0_stg1_0) ↦{fullShare} wts m ρ c : sProp 𝕄)
      ⊢ iprop(((((c : Thread nD τ).loc cc0_stg1_0) ↦{fullShare} wts m ρ c) -∗ runs c (k (wRows m ρ c s)) Q)
      -∗ runs c (.op (.load wM (Rect.unit (s := S1024x1024) off S256x1024.size hb).toLoadRect hl) k) Q) := by
  subst h
  exact wp_load 𝒱₀ (c : Thread nD τ) none Set.univ (m := wM) (r := (wRect s).toLoadRect) (f := wts m ρ c) (Finset.subset_univ _)

/-- Loading a slot that has been filled. -/
theorem step_load_slot (c s : Dev nD) {off : Fin 3 → ℕ} (h : off = ![s.val, 0, 0]) {hb : ∀ a, off a + S1x256x256.size a ≤ S4x256x256.size a}
    {hl : sM.view.LoadsAt (Rect.unit (s := S4x256x256) off S1x256x256.size hb).toLoadRect}
    {α : Type} {Q : α → sProp 𝕄} {k : (S1x256x256.Idx → Elt F .bf16) → Prog (TpuEff nD τ sig (Elt F) Λ₀ .tc) α} :
    filled m ρ c s ⊢ iprop((filled m ρ c s -∗ runs c (k (lift (blockFor m ρ c s))) Q)
      -∗ runs c (.op (.load sM (Rect.unit (s := S4x256x256) off S1x256x256.size hb).toLoadRect hl) k) Q) := by
  subst h
  unfold filled
  iintro ⟨%f, %hf, H⟩
  iintro Hk
  unfold slotPts
  iapply (wp_load_rect 𝒱₀ (c : Thread nD τ) none Set.univ (m := sM) (r := sRect s) (S := (slot s).view.set) (f := f)
    (by rw [View.set_reshape])) $$ H
  iintro H
  have hv : (sM.access (sRect s)).read (Elt F) f = lift (blockFor m ρ c s) := by rw [← hf]; exact load_slot s f
  rw [hv]
  iapply Hk
  iexists f
  isplitr
  · ipureintro; exact hf
  · iexact H

/-! ## The body -/

variable (K : Dev nD × Fin 8 → ℕ)

def bodyPre (c : Dev nD) : sProp 𝕄 :=
  iprop((ghost m ρ K c ∗ credits c ∗ levAts L lv ∗ scratch (F := F) c)
    ∗ (dats m ρ 0 c).owesAt () t0_0.castSucc
    ∗ (∃ d, staged c cc0_stg0_0 ((dats m ρ 0 c).before (0 : Fin 3) t0_0 d))
    ∗ (∃ d, staged c cc0_stg1_0 ((dats m ρ 0 c).before (1 : Fin 3) t0_0 d))
    ∗ (∃ d, staged c cc0_stg2_0 ((dats m ρ 0 c).before (2 : Fin 3) t0_0 d)))

def bodyPost (c : Dev nD) : sProp 𝕄 :=
  iprop(Φ₁ (F := F) c ∗ (dats m ρ 0 c).owesAt () t0_0.succ ∗ staged c cc0_stg0_0 (slab m ρ c) ∗ staged c cc0_stg1_0 (wts m ρ c)
    ∗ staged c cc0_stg2_0 (outAt m ρ c))

set_option maxHeartbeats 1600000 in
theorem sound_body (c : Dev nD) (Kt : PUnit → sProp 𝕄) :
    iprop(bodyPre m ρ K c ∗ (bodyPost m ρ c -∗ Kt ⟨⟩))
      ⊢ runs c (cc0_body xM (Memref.isWhole_whole _) wM (Memref.isWhole_whole _) oM (Memref.isWhole_whole _)
            sM (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [runs, semSignalWord, semWaitWord, Prog.lift, Prog.bind_op, Prog.bind_ret, Prog.pure_eq_ret, wp_deviceId]
  unfold bodyPre bodyPost Φ₁ ghost places tokens credits Dat.owesAt Pipeline.owesWithin
  rw [cells_split c fun g => (atPos ER g 0 ∅ 0 : sProp 𝕄), cells_split c fun g => (semVal g 0 : sProp 𝕄)]
  rw [show (dats m ρ 0 c).owed t0_0.castSucc = owedAll c from rfl, show (dats m ρ 0 c).owed t0_0.succ = 0 from rfl]
  simp only [Ring.bigSep_fin3]
  iintro ⟨⟨⟨⟨#HR, ⟨HaB, ⟨HaS0, HaS1, HaS2⟩, HaO, HaR0, HaR1, HaR2⟩, ⟨Hb0, Hr0, Hs0⟩, ⟨Hb1, Hr1, Hs1⟩, ⟨Hb2, Hr2, Hs2⟩⟩,
      ⟨HcB, HcR0, HcR1, HcR2⟩, #Hlev, Hscr⟩, ⟨%W, %hW, HO⟩, ⟨%d0, %g0, %hg0, Hx⟩, ⟨%d1, %g1, %hg1, Hw⟩, ⟨%d2, %g2, %hg2, Hout⟩⟩, Hk⟩
  have hx : g0 = slab m ρ c := by rw [hg0]; unfold Dat.before; rw [if_pos (fetch0_0 t0_0)]; rfl
  have hw : g1 = wts m ρ c := by rw [hg1]; unfold Dat.before; rw [if_pos (fetch0_1 t0_0)]; rfl
  subst hx; subst hw
  -- the scratch as the device's own slot and the three partners'; the slab likewise
  ihave Hsl := ((scratch_slots c).trans (Entails.of_eq (bigSep_devices c _))) $$ Hscr
  ihave Hxs := (Entails.of_eq ((slab_blocks m ρ c).trans (bigSep_devices c _))) $$ Hx
  simp only [Ring.bigSep_fin3]
  icases Hsl with ⟨Hown, Hsl0, Hsl1, Hsl2⟩
  icases Hxs with ⟨Hxo, Hx0, Hx1, Hx2⟩
  ihave HO := (debt_intro c (owedAll c) W) $$ HO
  unfold owedAll
  -- the three signals
  iapply (step_signal m ρ K c 0 _ (dev1_eq c) _ (by decide) (owedSends c + oBar c 1 + oBar c 2)) $$ [HO Hb0 Hsl0]
  · isplitr; · iexact HR
    isplitl [HO]; · iexact HO
    isplitl [Hb0] <;> iassumption
  iintro HO
  iapply (step_signal m ρ K c 2 _ (dev2_eq c) _ (by decide) (owedSends c + oBar c 1)) $$ [HO Hb2 Hsl2]
  · isplitr; · iexact HR
    isplitl [HO]; · iexact HO
    isplitl [Hb2] <;> iassumption
  iintro HO
  iapply (step_signal m ρ K c 1 _ (dev3_eq c) _ (by decide) (owedSends c)) $$ [HO Hb1 Hsl1]
  · isplitr; · iexact HR
    isplitl [HO]; · iexact HO
    isplitl [Hb1] <;> iassumption
  iintro HO
  -- the wait for the three of the others
  iapply (step_barrier m ρ K c _ (by decide)) $$ [HO HcB HaB]
  · isplitr; · iexact HR
    isplitl [HO]; · iexact HO
    isplitl [HcB]; · iexact HcB
    isplitr; · iexact Hlev
    iexact HaB
  simp only [Ring.bigSep_fin3]
  iintro ⟨HO, HzB, Ht0, Ht1, Ht2⟩
  unfold owedSends
  -- the three sends
  iapply (step_send m ρ K c 0 _ (dev4_eq c) _ _ (xBlk_of (off3_eq 0 c) _) (slot_of (k0_off2_eq c) _) _ _ send0_eq (recv_of (k0_off1_eq c) _)
    (oSend c 2 + oSend c 1)) $$ [HO Hr0 Hs0 Hx0 Ht0]
  · isplitr; · iexact HR
    isplitl [HO]; · iexact HO
    isplitl [Hr0]; · iexact Hr0
    isplitl [Hs0]; · iexact Hs0
    isplitl [Hx0] <;> iassumption
  iintro ⟨HO, HcS0⟩
  iapply (step_send m ρ K c 1 _ (dev5_eq c) _ _ (xBlk_of (off3_eq 1 c) _) (slot_of (k0_off2_eq c) _) _ _ send1_eq (recv_of (k0_off1_eq c) _)
    (oSend c 2)) $$ [HO Hr1 Hs1 Hx1 Ht1]
  · isplitr; · iexact HR
    isplitl [HO]; · iexact HO
    isplitl [Hr1]; · iexact Hr1
    isplitl [Hs1]; · iexact Hs1
    isplitl [Hx1] <;> iassumption
  iintro ⟨HO, HcS1⟩
  ihave HO := (Entails.of_eq (congrArg (debt c) (zero_add (oSend c 2)).symm)) $$ HO
  iapply (step_send m ρ K c 2 _ (dev6_eq c) _ _ (xBlk_of (off3_eq 2 c) _) (slot_of (k0_off2_eq c) _) _ _ send2_eq (recv_of (k0_off1_eq c) _)
    0) $$ [HO Hr2 Hs2 Hx2 Ht2]
  · isplitr; · iexact HR
    isplitl [HO]; · iexact HO
    isplitl [Hr2]; · iexact Hr2
    isplitl [Hs2]; · iexact Hs2
    isplitl [Hx2] <;> iassumption
  iintro ⟨HO, HcS2⟩
  -- the device's own product
  iapply (step_load_x m ρ c c (k0_off4_eq c)) $$ Hxo; iintro Hxo
  iapply (step_load_w m ρ c c (k0_off5_eq c)) $$ Hw; iintro Hw
  -- per partner: its block arrives and is multiplied
  iapply (step_recv m ρ K c 0 _ (recv_of (off6_eq 0 c) _) _ _ (slot_of (off7_eq 0 c) _)) $$ [HO HcR0 HaR0]
  · isplitr; · iexact HR
    isplitl [HO]; · iexact HO
    isplitl [HcR0] <;> iassumption
  iintro ⟨HO, HzR0, Hf0⟩
  iapply (step_load_slot m ρ c (tgt 0 c) (off8_eq 0 c)) $$ Hf0; iintro Hf0
  iapply (step_load_w m ρ c (tgt 0 c) (off9_eq 0 c)) $$ Hw; iintro Hw
  iapply (step_recv m ρ K c 1 _ (recv_of (off6_eq 1 c) _) _ _ (slot_of (off7_eq 1 c) _)) $$ [HO HcR1 HaR1]
  · isplitr; · iexact HR
    isplitl [HO]; · iexact HO
    isplitl [HcR1] <;> iassumption
  iintro ⟨HO, HzR1, Hf1⟩
  iapply (step_load_slot m ρ c (tgt 1 c) (off8_eq 1 c)) $$ Hf1; iintro Hf1
  iapply (step_load_w m ρ c (tgt 1 c) (off9_eq 1 c)) $$ Hw; iintro Hw
  iapply (step_recv m ρ K c 2 _ (recv_of (off6_eq 2 c) _) _ _ (slot_of (off7_eq 2 c) _)) $$ [HO HcR2 HaR2]
  · isplitr; · iexact HR
    isplitl [HO]; · iexact HO
    isplitl [HcR2] <;> iassumption
  iintro ⟨HO, HzR2, Hf2⟩
  iapply (step_load_slot m ρ c (tgt 2 c) (off8_eq 2 c)) $$ Hf2; iintro Hf2
  iapply (step_load_w m ρ c (tgt 2 c) (off9_eq 2 c)) $$ Hw; iintro Hw
  -- the result
  iapply (wp_load 𝒱₀ (c : Thread nD τ) none Set.univ (m := oM) (Finset.subset_univ _)) $$ Hout; iintro Hout
  iapply (wp_store 𝒱₀ (c : Thread nD τ) none Set.univ (m := oM) (r := oRect) (Mk := Finset.univ) (Finset.subset_univ _)) $$ Hout; iintro Hout
  rw [store_out]
  -- the sends are done
  iapply (step_sent m ρ K c 0 _ send0_eq _ _ (xBlk_of (off3_eq 0 c) _)) $$ [HO HcS0 HaS0]
  · isplitr; · iexact HR
    isplitl [HO]; · iexact HO
    isplitl [HcS0] <;> iassumption
  iintro ⟨HO, HzS0, Hx0⟩
  iapply (step_sent m ρ K c 1 _ send1_eq _ _ (xBlk_of (off3_eq 1 c) _)) $$ [HO HcS1 HaS1]
  · isplitr; · iexact HR
    isplitl [HO]; · iexact HO
    isplitl [HcS1] <;> iassumption
  iintro ⟨HO, HzS1, Hx1⟩
  iapply (step_sent m ρ K c 2 _ send2_eq _ _ (xBlk_of (off3_eq 2 c) _)) $$ [HO HcS2 HaS2]
  · isplitr; · iexact HR
    isplitl [HO]; · iexact HO
    isplitl [HcS2] <;> iassumption
  iintro ⟨HO, HzS2, Hx2⟩
  imod (own_closed m ρ K c) $$ [HaO] with HzO
  · isplitr; · iexact HR
    iexact HaO
  rw [wp_ret]; imodintro
  iapply Hk
  isplitl [Hown Hf0 Hf1 Hf2 HzB HzS0 HzS1 HzS2 HzO HzR0 HzR1 HzR2]
  · isplitl [Hown Hf0 Hf1 Hf2]
    · iapply ((Entails.of_eq (bigSep_devices c _).symm).trans (slots_scratch m c))
      rw [Ring.bigSep_fin3]
      isplitl [Hown]; · iexact Hown
      isplitl [Hf0]; · iapply (filled_slot m ρ c (tgt 0 c)) $$ Hf0
      isplitl [Hf1]; · iapply (filled_slot m ρ c (tgt 1 c)) $$ Hf1
      iapply (filled_slot m ρ c (tgt 2 c)) $$ Hf2
    isplitl [HzB]; · iexact HzB
    isplitl [HzS0 HzS1 HzS2]
    · isplitl [HzS0]; · iexact HzS0
      isplitl [HzS1] <;> iassumption
    isplitl [HzO]; · iexact HzO
    isplitl [HzR0]; · iexact HzR0
    isplitl [HzR1] <;> iassumption
  isplitl [HO]
  · unfold debt; icases HO with ⟨%W', HO⟩
    iexists W'
    isplitr; · ipureintro; exact fun _ _ => Or.inl trivial
    iexact HO
  isplitl [Hxo Hx0 Hx1 Hx2]
  · iexists _; isplitr; · (ipureintro; rfl)
    iapply (Entails.of_eq ((slab_blocks m ρ c).trans (bigSep_devices c _)).symm)
    rw [Ring.bigSep_fin3]
    isplitl [Hxo]; · iexact Hxo
    isplitl [Hx0]; · iexact Hx0
    isplitl [Hx1] <;> iassumption
  isplitl [Hw]
  · iexists _; isplitr; · (ipureintro; rfl)
    iexact Hw
  iexists _; isplitr; · (ipureintro; rfl)
  iexact Hout

end Data

end Cert.Exchange

end
-- ==== Proof.Launch.lean ====
/-
# The launch

All four devices start together. The eight semaphores of each become cells of the schedule, each device keeps its
positions and hands the right to signal or to fill one of its slots to the device that will do so, and the library's
launch theorem runs the four bodies. `run_main` is the outcome: every execution ends, the arrays hold what
`Body` computed, and every counter is back at zero.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the launch asks for it -/

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show iprop(Φ₀ m ρ c ∗ (dats m ρ 0 c).owesAt () t0_0.castSucc
      ∗ (∃ d, staged c cc0_stg0_0 ((dats m ρ 0 c).before (0 : Fin 3) t0_0 d))
      ∗ (∃ d, staged c cc0_stg1_0 ((dats m ρ 0 c).before (1 : Fin 3) t0_0 d))
      ∗ (∃ d, staged c cc0_stg2_0 ((dats m ρ 0 c).before (2 : Fin 3) t0_0 d)))
    ⊢ runs c (cc0_body xM (Memref.isWhole_whole _) wM (Memref.isWhole_whole _) oM (Memref.isWhole_whole _)
        sM (Memref.isWhole_whole _) cc0_scratch1 cc0_scratch2) (fun _ => bodyPost m ρ c)
  unfold Φ₀ start
  iintro ⟨⟨⟨⟨%K, Hg⟩, Hc, Hl⟩, Hscr⟩, Ho, Hx, Hw, Hout⟩
  iapply (sound_body m ρ K c fun _ => bodyPost m ρ c)
  unfold bodyPre
  isplitr []
  · isplitl [Hg Hc Hl Hscr]
    · isplitl [Hg]; · iexact Hg
      isplitl [Hc]; · iexact Hc
      isplitl [Hl] <;> iassumption
    isplitl [Ho]; · iexact Ho
    isplitl [Hx]; · iexact Hx
    isplitl [Hw] <;> iassumption
  · iintro H; iexact H

/-! ## The ghost state dealt out -/

/-- The kernel's own seven semaphores: all of a device's cells but the barrier. -/
def osem (k : Fin 7) : SemLoc sig := csem k.succ

theorem ownSemFacts : Pipeline.OwnSemFacts cfg0.spec osem := by decide

theorem share_eq (c : Dev nD) (w : Fin cfg0.W) : (dats m ρ 0 c).share w = fullShare := by unfold Dat.share; split <;> rfl

def cellsAll : Finset (GSem nD τ sig) := Finset.univ.map ⟨kcell, kcell_inj⟩

/-- The duties of device `c`'s own cells, by kind (signal, arrival, send) and by partner. -/
def dutyOf (c : Dev nD) (kj : Fin 3 × Fin 3) : SemLoc sig × Fin 3 := match kj.1 with
  | 0 => (.reg barS, kj.2)
  | 1 => (.dma (recvS (tgt kj.2 c)), 0)
  | 2 => (.dma (sendS kj.2), 0)
theorem dutyOf_inj (c : Dev nD) : Function.Injective (dutyOf c) := by revert c; decide

def tokOf (x : Dev nD × Fin 3 × Fin 3) : GSem nD τ sig × ℕ × Fin 3 := (((x.1 : Thread nD τ), (dutyOf x.1 x.2).1), 0, (dutyOf x.1 x.2).2)
theorem tokOf_inj : Function.Injective tokOf := by
  rintro ⟨c, kj⟩ ⟨c', kj'⟩ h
  have h1 : c = c' := congrArg (fun x : GSem nD τ sig × ℕ × Fin 3 => x.1.1.1) h
  subst h1
  have h2 : dutyOf c kj = dutyOf c kj' :=
    Prod.ext (congrArg (fun x : GSem nD τ sig × ℕ × Fin 3 => x.1.2) h) (congrArg (fun x : GSem nD τ sig × ℕ × Fin 3 => x.2.2) h)
  rw [dutyOf_inj c h2]
def toksAll : Finset (GSem nD τ sig × ℕ × Fin 3) := Finset.univ.map ⟨tokOf, tokOf_inj⟩

def u₀ : UU :=
  (initOf (Pipeline.cells cfgs cellOf_inj) (Pipeline.launchToks cfgs cellOf_inj), initOf cellsAll toksAll)

/-- The tokens of device `c`'s own cells that have to do with its `j`-th partner. -/
def minted (c : Dev nD) (j : Fin 3) : sProp 𝕄 :=
  iprop(dutyTok ER (barCell c) 0 j ∗ dutyTok ER (recvCell c (tgt j c)) 0 0 ∗ dutyTok ER (sendCell c j) 0 0)

/-- What the launch deals device `c`, and what the exchange of tokens makes of it. -/
def G (c : Dev nD) : sProp 𝕄 :=
  iprop((bigSep Finset.univ fun k => roundState ER (rd m ρ) (kcell (c, k)) 0)
    ∗ (bigSep Finset.univ fun k => reached ER (kcell (c, k)) 0) ∗ places c ∗ bigSep Finset.univ fun j => minted c j)
def G' (c : Dev nD) : sProp 𝕄 := iprop(∃ K, ghost m ρ K c)

section Deal

omit [FloatOps F]

theorem over_cells (Φ : GSem nD τ sig → sProp 𝕄) :
    bigSep cellsAll Φ = bigSep Finset.univ fun c : Dev nD => bigSep Finset.univ fun k : Fin 8 => Φ (kcell (c, k)) := by
  unfold cellsAll; rw [bigSep_map, bigSep_univ_prod]; rfl

theorem over_toks : bigSep toksAll (fun x => (dutyTok ER x.1 x.2.1 x.2.2 : sProp 𝕄))
    = bigSep Finset.univ fun c : Dev nD => bigSep Finset.univ fun j => minted c j := by
  unfold toksAll; rw [bigSep_map, bigSep_univ_prod]
  refine bigSep_congr fun c _ => ?_
  rw [bigSep_univ_prod, Ring.bigSep_fin3]
  unfold minted
  rw [bigSep_sep', bigSep_sep']
  rfl

theorem fund_cells : BI.own (ER (initOf cellsAll toksAll)) ⊢ (|==> bigSep Finset.univ (G m ρ) : sProp 𝕄) := by
  iintro HX
  imod (Rounds.fund ER (rd m ρ) cellsAll toksAll) $$ HX with ⟨Hst, Hr, Hat, Htok⟩
  imodintro
  ihave Hst := (Entails.of_eq (over_cells fun g => roundState ER (rd m ρ) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold G places; simp only [bigSep_sep']
  isplitl [Hst]; · iexact Hst
  isplitl [Hr]; · iexact Hr
  isplitl [Hat]; · iexact Hat
  iexact Htok

/-- The barrier's counter is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's counters: the barrier's and its own seven. -/
theorem counters_eq (c : Dev nD) :
    (bigSep Finset.univ fun k => semVal (kcell (c, k)) 0 : sProp 𝕄)
      = iprop(unscopedSems0 c ∗ Pipeline.ownSems0 (Ix := Unit) (Name := ℕ) (U := UU) (Lvl := ℕ) (Val := Elt F) (τ := τ) osem c) := by
  have h : (Finset.univ : Finset (Fin 8)) = insert 0 (Finset.univ.map ⟨Fin.succ, Fin.succ_injective 7⟩) := by decide
  rw [unscopedSems0_eq, h, bigSep_insert (by decide), bigSep_map]
  unfold Pipeline.ownSems0
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => reached ER (kcell (c, k)) 0) ∗ places c ∗ bigSep Finset.univ fun j => minted c j) := by
  unfold G
  iintro ⟨Hos, Hus, Hst, Hrest⟩
  ihave Hv := (Entails.of_eq (counters_eq (F := F) c).symm) $$ [Hos Hus]
  · isplitl [Hus] <;> iassumption
  imod (show iprop((bigSep Finset.univ fun k => semVal (kcell (c, k)) 0) ∗ bigSep Finset.univ fun k => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv] <;> iassumption

/-- The pairs (device, partner) seen from the partner: `(p, the partner that is c)` for `(c, the partner that is p)`. -/
def across : Dev nD × Fin 3 ≃ Dev nD × Fin 3 :=
  ⟨fun x => (tgt x.2 x.1, opp x.2), fun x => (tgt x.2 x.1, opp x.2),
    fun x => by show (tgt (opp x.2) (tgt x.2 x.1), opp (opp x.2)) = x; rw [tgt_opp, opp_opp],
    fun x => by show (tgt (opp x.2) (tgt x.2 x.1), opp (opp x.2)) = x; rw [tgt_opp, opp_opp]⟩

/-- The tokens of signals and arrivals go to the partners that pay them; those of sends stay. -/
theorem toks_across : (bigSep Finset.univ fun c : Dev nD => bigSep Finset.univ fun j => (minted c j : sProp 𝕄))
    = bigSep Finset.univ fun c : Dev nD => bigSep Finset.univ fun j => tokens c j := by
  rw [← bigSep_univ_prod (fun x : Dev nD × Fin 3 => (minted x.1 x.2 : sProp 𝕄)),
    ← bigSep_univ_prod (fun x : Dev nD × Fin 3 => (tokens x.1 x.2 : sProp 𝕄))]
  unfold minted tokens
  rw [bigSep_sep', bigSep_sep', bigSep_sep', bigSep_sep',
    bigSep_univ_equiv across (fun x : Dev nD × Fin 3 => (dutyTok ER (barCell x.1) 0 x.2 : sProp 𝕄)),
    bigSep_univ_equiv across (fun x : Dev nD × Fin 3 => (dutyTok ER (recvCell x.1 (tgt x.2 x.1)) 0 0 : sProp 𝕄)),
    bigSep_congr (s := Finset.univ) (Φ := fun x : Dev nD × Fin 3 => (dutyTok ER (recvCell (across x).1 (tgt (across x).2 (across x).1)) 0 0 : sProp 𝕄))
      fun x _ => congrArg (fun p => (dutyTok ER (recvCell (tgt x.2 x.1) p) 0 0 : sProp 𝕄)) (tgt_opp x.2 x.1)]
  rfl

theorem ghost_intro (K : Dev nD × Fin 8 → ℕ) (c : Dev nD) :
    iprop(records m ρ K ∗ (places c ∗ bigSep Finset.univ fun j => tokens c j)) ⊢ G' m ρ c := by
  unfold G' ghost
  iintro H
  iexists K
  iexact H

theorem with_records (K : Dev nD × Fin 8 → ℕ) :
    iprop(records m ρ K ∗ bigSep Finset.univ fun c : Dev nD => iprop(places c ∗ bigSep Finset.univ fun j => tokens c j))
      ⊢ bigSep Finset.univ (G' m ρ) :=
  (sep_mono_left (BI.bigSep_of_persistent Finset.univ (records m ρ K))).trans
    (by rw [← bigSep_sep']; exact bigSep_mono fun c _ => ghost_intro m ρ K c)

theorem regroup :
    (bigSep Finset.univ fun c : Dev nD => iprop((bigSep Finset.univ fun k => iprop(∃ κ : ℕ, cellInv ER (rd m ρ) κ (kcell (c, k))))
          ∗ (bigSep Finset.univ fun k => reached ER (kcell (c, k)) 0) ∗ places c ∗ bigSep Finset.univ fun j => minted c j) : sProp 𝕄)
      ⊢ bigSep Finset.univ (G' m ρ) := by
  rw [bigSep_sep', bigSep_sep', bigSep_sep', toks_across,
    ← bigSep_univ_prod (fun ck : Dev nD × Fin 8 => iprop(∃ κ : ℕ, cellInv ER (rd m ρ) κ (kcell ck))),
    ← bigSep_univ_prod (fun ck : Dev nD × Fin 8 => (reached ER (kcell ck) 0 : sProp 𝕄)),
    ← bigSep_sep' Finset.univ (fun c : Dev nD => (places c : sProp 𝕄))]
  iintro ⟨HI, #HR, Hlin⟩
  ihave HK := (BI.bigSep_exists_pi Finset.univ (fun (ck : Dev nD × Fin 8) (κ : ℕ) => (cellInv ER (rd m ρ) κ (kcell ck) : sProp 𝕄))) $$ HI
  icases HK with ⟨%K, #HI⟩
  iapply (with_records m ρ K)
  isplitr
  · unfold records; isplitl; · iexact HI
    iexact HR
  · iexact Hlin

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Deal

/-! ## What the devices owe together is what each may wait for -/

section Credit

theorem bar_ne_recv (c d p : Dev nD) : barCell c ≠ recvCell d p := fun h => by cases congrArg Prod.snd h

theorem oBar_bar (d c : Dev nD) (j : Fin 3) : oBar d j (barCell c) () = if c = tgt j d then 1 else 0 := by
  unfold oBar; rw [tallyAt_apply]
  exact if_congr ⟨fun h => congrArg (fun g : GSem nD τ sig => g.1.1) h.1, fun h => ⟨h ▸ rfl, rfl⟩⟩ rfl rfl
theorem oBar_recv (d c p : Dev nD) (j : Fin 3) : oBar d j (recvCell c p) () = 0 := by
  unfold oBar; rw [tallyAt_ne_cell (bar_ne_recv _ _ _).symm]; rfl
theorem oSend_bar (d c : Dev nD) (j : Fin 3) : oSend d j (barCell c) () = 0 := by
  unfold oSend; rw [tallyAt_ne_cell (bar_ne_recv _ _ _)]; rfl
theorem recvS_inj : Function.Injective recvS := by decide
theorem oSend_recv (d c p : Dev nD) (j : Fin 3) : oSend d j (recvCell c p) () = if c = tgt j d ∧ p = d then N else 0 := by
  unfold oSend; rw [tallyAt_apply]
  refine if_congr ⟨fun h => ⟨congrArg (fun g : GSem nD τ sig => g.1.1) h.1, recvS_inj ?_⟩, fun h => ⟨by rw [h.1, h.2], rfl⟩⟩ rfl rfl
  have h2 : SemLoc.dma (recvS p) = (SemLoc.dma (recvS d) : SemLoc sig) := congrArg (fun g : GSem nD τ sig => g.2) h.1
  injection h2

theorem owedAll_apply (d : Dev nD) (g : GSem nD τ sig) :
    owedAll d g () = oSend d 2 g () + oSend d 1 g () + oSend d 0 g () + oBar d 1 g () + oBar d 2 g () + oBar d 0 g () := rfl

theorem owed_bar (c : Dev nD) : ∑ d, owedAll d (barCell c) () = 3 := by
  have h : ∀ c : Dev nD, ∑ d : Dev nD, ((if c = tgt 1 d then 1 else 0) + (if c = tgt 2 d then 1 else 0) + (if c = tgt 0 d then 1 else 0)) = 3 := by decide
  rw [← h c]
  refine Finset.sum_congr rfl fun d _ => ?_
  rw [owedAll_apply, oSend_bar, oSend_bar, oSend_bar, oBar_bar, oBar_bar, oBar_bar, zero_add, zero_add, zero_add]

theorem back_iff (i j : Fin 3) (c : Dev nD) : c = tgt i (tgt j c) ↔ i = opp j := by revert i j c; decide

theorem owed_recv (c : Dev nD) (j : Fin 3) : ∑ d, owedAll d (recvCell c (tgt j c)) () = N := by
  rw [Finset.sum_eq_single (tgt j c)]
  · rw [owedAll_apply, oSend_recv, oSend_recv, oSend_recv, oBar_recv, oBar_recv, oBar_recv]
    simp only [back_iff, and_true, add_zero]
    generalize N = n
    revert j; intro j; fin_cases j <;> simp [opp]
  · intro d _ hd
    rw [owedAll_apply, oSend_recv, oSend_recv, oSend_recv, oBar_recv, oBar_recv, oBar_recv,
      if_neg fun h => hd h.2.symm, if_neg fun h => hd h.2.symm, if_neg fun h => hd h.2.symm]
    rfl
  · exact fun h => absurd (Finset.mem_univ _) h

theorem launch_bar (c : Dev nD) :
    tallyOn (barCell c) (launchCredit (Pipeline.owing owedAll) 0 (barCell c)) = (tallyAt (barCell c) () 3 : CellTallies nD τ sig Unit) := by
  unfold tallyAt; refine congrArg _ (Finsupp.ext fun u => ?_); cases u
  rw [Pipeline.launchCredit_owing, Finsupp.single_eq_same, owed_bar]
theorem launch_recv (c : Dev nD) (j : Fin 3) :
    tallyOn (recvCell c (tgt j c)) (launchCredit (Pipeline.owing owedAll) 0 (recvCell c (tgt j c)))
      = (tallyAt (recvCell c (tgt j c)) () N : CellTallies nD τ sig Unit) := by
  unfold tallyAt; refine congrArg _ (Finsupp.ext fun u => ?_); cases u
  rw [Pipeline.launchCredit_owing, Finsupp.single_eq_same, owed_recv]

omit [FloatOps F] in
theorem creds (c : Dev nD) : (Pipeline.launchCred owedAll c : sProp 𝕄) ⊢ credits c := by
  have hinj : Function.Injective fun j : Fin 3 => (SemLoc.dma (recvS (tgt j c)) : SemLoc sig) := fun i j h =>
    tgt_inj c (recvS_inj (by injection h))
  unfold Pipeline.launchCred credits
  rw [bigSep_univ_at _ (SemLoc.reg barS), launch_bar]
  refine sep_mono_right ((bigSep_subset (t := Finset.univ.map ⟨_, hinj⟩) fun x hx => ?_).trans ?_)
  · obtain ⟨j, -, rfl⟩ := Finset.mem_map.mp hx
    exact Finset.mem_erase.mpr ⟨fun h => (by cases h), Finset.mem_univ _⟩
  · rw [bigSep_map]
    exact bigSep_mono fun j _ => by
      rw [← launch_recv]; exact BI.Entails.refl _

end Credit

/-! ## Entering and leaving the kernel -/

omit [FloatOps F] in
theorem start_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [counters_eq]
  iintro ⟨Hr, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array holds at the end on device `c`. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := owedAll) (howed₀ := fun _ => rfl) (howedN := fun _ => rfl)
    (L := L) (lv := lv) (hL := fun g h => if_neg h) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

/-- Both arguments hold what they held. -/
theorem final_x (c : Dev nD) : finalA m ρ c (0 : Fin 3) = m ((c : Thread nD τ).loc main_arg0) :=
  (dats (F := F) m ρ 0 c).arrAt_in (0 : Fin 3) rfl _
theorem final_w (c : Dev nD) : finalA m ρ c (1 : Fin 3) = m ((c : Thread nD τ).loc main_arg1) :=
  (dats (F := F) m ρ 0 c).arrAt_in (1 : Fin 3) rfl _

/-- A window that is the whole array: reading its block reads the array. -/
theorem slab_eq (c : Dev nD) : slab m ρ c = m ((c : Thread nD τ).loc main_arg0) :=
  Memref.read_access_unit_zero (Elt F) main_arg0 (funext fun a => by fin_cases a <;> rfl) _ _
theorem wts_eq (c : Dev nD) : wts m ρ c = m ((c : Thread nD τ).loc main_arg1) :=
  Memref.read_access_unit_zero (Elt F) main_arg1 (funext fun a => by fin_cases a <;> rfl) _ _

/-- The result array holds what the device computed. -/
theorem final_out (c : Dev nD) : finalA m ρ c (2 : Fin 3) = outAt m ρ c := by
  have h : (win0_2.blk (0 : Fin 1)).view.read (Elt F) (finalA m ρ c (2 : Fin 3)) = outAt m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt F) main_v1 (funext fun a => by fin_cases a <;> rfl) _ _).symm.trans h

end Cert.Exchange

end
-- ==== Proof.Gelu.lean ====
/-
# The activation, at one element

Both programs end in the tanh approximation of gelu, applied to each element of a product. They spell the cube
differently: the kernel multiplies `0.044715` by the element three times over, the reference multiplies it by the
element's cube. Over the extended reals multiplication is associative, so the two agree.
-/
module

public import proofs.«01_k».proof.Proof.Mesh
public import proofs.«01_k».proof.Proof.Gen.ReferenceIdeal
public import Idealize.ShloMosaic.Lib.Pointwise

@[expose] public section

noncomputable section

namespace Cert.Exchange

open Idealize.ShloMosaic

/-- `½·y · (1 + tanh (√(2/π)·(y + 0.044715·y³)))`, the constants being the binary32 words both programs hold. -/
def gelu (y : EReal) : EReal :=
  Ideal.ofBits .f32 0x3F000000#32 * y
    * (1 + Ideal.tanh (Ideal.ofBits .f32 0x3F4C422A#32 * (y + Ideal.ofBits .f32 0x3D372713#32 * (y * y * y))))

/-- The kernel's order of the multiplications. -/
theorem gelu_kernel (y : EReal) :
    Ideal.ofBits .f32 0x3F000000#32 * y
      * (1 + Ideal.tanh (Ideal.ofBits .f32 0x3F4C422A#32 * (y + Ideal.ofBits .f32 0x3D372713#32 * y * y * y))) = gelu y := by
  unfold gelu
  simp only [mul_assoc]

section Reference

open Cert.ReferenceIdeal Cert.ReferenceIdeal.Gen

/-- What the reference does with its product `Y`: round to bf16, widen again, and apply the activation. -/
def refAct (Y : FVec Ideal S1024x1024 .f32) : FVec Ideal S1024x1024 .f32 :=
  let y : FVec Ideal S1024x1024 .f32 := extf .f32 (truncf .bf16 Y bitsLt_bf16_f32) bitsLt_bf16_f32
  mulf (mulf (broadcastInDim S1024x1024 ![] bcast_S_S1024x1024 (constant S_ .f32 0x3F000000#32)) y)
    (addf (broadcastInDim S1024x1024 ![] bcast_S_S1024x1024 (constant S_ .f32 0x3F800000#32))
      (Host.tanh (mulf (broadcastInDim S1024x1024 ![] bcast_S_S1024x1024 (constant S_ .f32 0x3F4C422A#32))
        (addf y (mulf (broadcastInDim S1024x1024 ![] bcast_S_S1024x1024 (constant S_ .f32 0x3D372713#32))
          (mulf (mulf y y) y))))))

theorem refAct_apply (Y : FVec Ideal S1024x1024 .f32) (j : S1024x1024.Idx) : refAct Y j = gelu (Y j) := by
  unfold refAct gelu
  pointwise

/-- The reference's result: the activation of the product of the whole arrays. -/
def refOut (X W : FVec Ideal S1024x1024 .bf16) : FVec Ideal S1024x1024 .f32 :=
  refAct (Host.dotGeneral dot_S1024x1024_S1024x1024_S1024x1024_1_0_0_1_n_n none X W)

theorem refOut_apply (X W : FVec Ideal S1024x1024 .bf16) (r n : Fin 1024) :
    refOut X W (ix2 r n) = gelu (∑ k : Fin 1024, X (ix2 r k) * W (ix2 k n)) := by
  unfold refOut
  rw [refAct_apply]
  congr 1
  pointwise

end Reference

end Cert.Exchange

end
-- ==== Proof.Product.lean ====
/-
# One long product as four short ones

A device adds up four products of 256 terms, one for each device's columns of `x`: its own first, then its partners'
in the order it waits for them. Over the extended reals addition may be regrouped freely, so the four together are
the product of 1024 terms.
-/
module

public import proofs.«01_k».proof.Proof.Gelu

@[expose] public section

noncomputable section

namespace Cert.Exchange

open Cert.KernelIdeal Cert.KernelIdeal.Gen

open Idealize.ShloMosaic

/-- The product of a row of a block of `x` and a column of a block of `w`. -/
def part (X : FVec Ideal S256x256 .bf16) (W : FVec Ideal S256x1024 .bf16) (r : Fin 256) (n : Fin 1024) : EReal :=
  ∑ k : Fin 256, X (ix2 r k) * W (ix2 k n)

/-- The block product, started from zero, at an element. -/
theorem matmul_part (X : FVec Ideal S256x256 .bf16) (W : FVec Ideal S256x1024 .bf16) (r : Fin 256) (n : Fin 1024) :
    matmul dot_S256x256_S256x1024_S256x1024_1_0_0_1_n_n none X W (constant S256x1024 .f32 0x00000000#32) (ix2 r n)
      = part X W r n := by
  unfold part
  pointwise

/-- A block read from a slot is the block that arrived there. -/
theorem slot_block (X : FVec Ideal S256x256 .bf16) :
    (shapeCast S256x256 (lift (F := Ideal) X) shapeCasts_S1x256x256_S256x256 : FVec Ideal S256x256 .bf16) = X :=
  lift_apply_cast (F := Ideal) X

/-- The sum of the first three products, at an element. -/
theorem three_apply (X₀ X₁ X₂ : FVec Ideal S256x256 .bf16) (W₀ W₁ W₂ : FVec Ideal S256x1024 .bf16) (r : Fin 256) (n : Fin 1024) :
    k0_pay3 (F := Ideal) (k0_pay1 X₀ W₀) (k0_pay2 (lift (F := Ideal) X₁)) W₁ (lift (F := Ideal) X₂) W₂ (ix2 r n)
      = part X₀ W₀ r n + part X₁ W₁ r n + part X₂ W₂ r n := by
  unfold k0_pay3 k0_pay2 k0_pay1
  simp only [shapeCast_self]
  rw [slot_block, slot_block, addf_apply, addf_apply, matmul_part, matmul_part, matmul_part]
  rfl

/-- The last product added to what there is, and the activation, at an element. -/
theorem last_apply (A : FVec Ideal S256x1024 .f32) (X : FVec Ideal S256x256 .bf16) (W : FVec Ideal S256x1024 .bf16)
    (r : Fin 256) (n : Fin 1024) :
    k0_pay4 (F := Ideal) A (lift (F := Ideal) X) W (ix2 r n) = gelu (A (ix2 r n) + part X W r n) := by
  rw [← gelu_kernel, ← matmul_part]
  unfold k0_pay4
  simp only [shapeCast_self]
  rw [slot_block]
  generalize matmul dot_S256x256_S256x1024_S256x1024_1_0_0_1_n_n none X W (constant S256x1024 .f32 0x00000000#32) = B
  pointwise

/-- What the kernel's arithmetic makes of its four blocks, at an element. -/
theorem payload_apply (X₀ X₁ X₂ X₃ : FVec Ideal S256x256 .bf16) (W₀ W₁ W₂ W₃ : FVec Ideal S256x1024 .bf16)
    (r : Fin 256) (n : Fin 1024) :
    k0_pay4 (F := Ideal) (k0_pay3 (k0_pay1 X₀ W₀) (k0_pay2 (lift (F := Ideal) X₁)) W₁ (lift (F := Ideal) X₂) W₂)
        (lift (F := Ideal) X₃) W₃ (ix2 r n)
      = gelu (part X₀ W₀ r n + part X₁ W₁ r n + part X₂ W₂ r n + part X₃ W₃ r n) := by
  rw [last_apply, three_apply]

/-- A sum over the devices: the device itself and its three partners. -/
theorem sum_devices (c : Dev nD) (f : Dev nD → EReal) :
    ∑ s, f s = f c + f (tgt 0 c) + f (tgt 1 c) + f (tgt 2 c) := by
  have h : (Finset.univ : Finset (Dev nD)) = insert c (Finset.univ.map ⟨fun j => tgt j c, tgt_inj c⟩) := by
    revert c; decide
  have hc : c ∉ Finset.univ.map ⟨fun j => tgt j c, tgt_inj c⟩ := by revert c; decide
  rw [h, Finset.sum_insert hc, Finset.sum_map, Fin.sum_univ_three]
  simp only [Function.Embedding.coeFn_mk, add_assoc]

/-- A position along the long axis: place `k` of device `s`'s part. -/
def long (s : Dev nD) (k : Fin 256) : Fin 1024 :=
  ⟨s.val * 256 + k.val, by have hs : s.val < 4 := s.isLt; have := k.isLt; omega⟩

/-- The long sum by devices. -/
theorem sum_long (c : Dev nD) (f : Fin 1024 → EReal) :
    ∑ k, f k = (∑ k, f (long c k)) + (∑ k, f (long (tgt 0 c) k)) + (∑ k, f (long (tgt 1 c) k)) + ∑ k, f (long (tgt 2 c) k) :=
  (Fin.sum_univ_tiles 4 256 rfl f).trans (sum_devices c fun s => ∑ k, f (long s k))

end Cert.Exchange

end
-- ==== Proof.Value.lean ====
/-
# Each device's result is its block of the reference's

A device's slab is its 256 columns of the whole `x`, and every device holds the whole `w`. So the block device `s` has
for device `c` is rows `256 c …`, columns `256 s …` of `x`, and meets rows `256 s …` of `w`.
-/
module

public import proofs.«01_k».proof.Proof.Product
public import proofs.«01_k».proof.Proof.Launch

@[expose] public section

noncomputable section

namespace Cert.Exchange

open Cert.KernelIdeal Cert.KernelIdeal.Gen

open Idealize.ShloMosaic
open Idealize.ShloMosaic.TcCoe

variable (m : (ℓ : Loc nD τ sig) → Buf (Elt Ideal) ℓ) (ρ : Dev nD → PrngReg)
variable (X W : FVec Ideal Cert.ReferenceIdeal.S1024x1024 .bf16)

/-- The devices' arguments are their parts of the whole arrays. -/
def Holds : Prop := ∀ c : Dev nD,
  m ((c : Thread nD τ).loc main_arg0) = Layout.block ⟨2, ![1024, 256]⟩ ⟨2, ![1024, 1024]⟩ 1 4 c X
    ∧ m ((c : Thread nD τ).loc main_arg1) = W

variable {m X W}

theorem blockFor_apply (h : Holds m X W) (c s : Dev nD) (r k : Fin 256) :
    blockFor m ρ c s (ix2 r k) = X (ix2 (long c r) (long s k)) := by
  unfold blockFor
  rw [slab_eq, (h s).1, View.read_apply]
  refine congrArg X (funext fun a => Fin.ext ?_)
  match a with
  | ⟨0, _⟩ => show 256 * c.val + 1 * r.val = c.val * 256 + r.val; omega
  | ⟨1, _⟩ => show s.val * 256 + (0 + 1 * k.val) = s.val * 256 + k.val; omega

theorem wRows_apply (h : Holds m X W) (c s : Dev nD) (k : Fin 256) (n : Fin 1024) :
    wRows m ρ c s (ix2 k n) = W (ix2 (long s k) n) := by
  unfold wRows
  rw [wts_eq, (h c).2]
  refine congrArg W (funext fun a => Fin.ext ?_)
  match a with
  | ⟨0, _⟩ => show 256 * s.val + 1 * k.val = s.val * 256 + k.val; omega
  | ⟨1, _⟩ => show 0 + 1 * n.val = n.val; omega

/-- The share of the product that comes from device `s`. -/
theorem part_eq (h : Holds m X W) (c s : Dev nD) (r : Fin 256) (n : Fin 1024) :
    part (blockFor m ρ c s) (wRows m ρ c s) r n = ∑ k, X (ix2 (long c r) (long s k)) * W (ix2 (long s k) n) := by
  unfold part
  exact Finset.sum_congr rfl fun k _ => by rw [blockFor_apply ρ h, wRows_apply ρ h]

theorem out_block (h : Holds m X W) (c : Dev nD) :
    outAt m ρ c = Layout.block ⟨2, ![256, 1024]⟩ ⟨2, ![1024, 1024]⟩ 0 4 c (refOut X W) := by
  funext i
  obtain ⟨r, n, rfl⟩ : ∃ (r : Fin 256) (n : Fin 1024), i = ix2 r n := ⟨i 0, i 1, eq_ix2 i⟩
  rw [Layout.block_apply,
    show (Layout.Tiles.idx (S := ⟨2, ![256, 1024]⟩) (T := ⟨2, ![1024, 1024]⟩) (a := 0) (k := 4) (by decide) c (ix2 r n))
      = ix2 (long c r) n from funext fun a => Fin.ext (by fin_cases a <;> rfl),
    refOut_apply, sum_long c]
  unfold outAt
  rw [payload_apply, part_eq ρ h, part_eq ρ h, part_eq ρ h, part_eq ρ h]

end Cert.Exchange

end
-- ==== Proof.lean ====
/-
# The five claims

The kernel runs on machine words and over the extended reals (`Launch`), the reference runs (its generated run), and
over the extended reals each device's result is its block of the reference's (`Value`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Exchange

/-- The kernel, over any float values: it runs, leaves its arguments as they were, and every counter ends at zero. -/
theorem frame {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run Cert.KernelIdeal.defs _ _).mono
    (fun _ h => ⟨fun c => ⟨(h.1 c 0).trans (final_x m ρ c), (h.1 c 1).trans (final_w m ρ c)⟩, h.2⟩) (run_main m ρ)

/-- The two spellings of the kernel have one body table: it is the same function at the one label. -/
theorem table_eq : Cert.Kernel.defs₀ (F := Bits) = Cert.KernelIdeal.defs₀ (F := Bits) := by
  unfold Cert.Kernel.defs₀ Cert.KernelIdeal.defs₀
  refine congrArg Defs.onTc (funext fun l => funext fun x => ?_)
  obtain rfl : l = 0 := Subsingleton.elim (α := Fin 1) _ _
  obtain ⟨t, s⟩ := x
  rfl

theorem defs_eq : Cert.Kernel.defs (F := Bits) = Cert.KernelIdeal.defs (F := Bits) := congrArg (Pipeline.defs _) table_eq

/-- On machine words, and over the extended reals. -/
theorem frame_kernel : Cert.quiescent_Kernel := fun m ρ _ => by
  have h := frame (F := Bits) m ρ
  rw [← defs_eq] at h
  exact h
theorem frame_ideal : Cert.quiescent_KernelIdeal := fun m ρ _ => frame (F := Ideal) m ρ

/-- The reference runs too; it has no counters at all. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device ends with its block of the reference's result. -/
theorem value : Cert.algebraic_KernelIdeal_ReferenceIdeal := by
  intro m ρ m' ρ' _ hagree
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono (fun _ h c => ⟨((h.1 c 2).trans (final_out m ρ c)).trans (out_block ρ hagree c),
      (h.1 c 0).trans (final_x m ρ c), (h.1 c 1).trans (final_w m ρ c)⟩) (run_main (F := Ideal) m ρ)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, value⟩

end Cert.Proof

end
